-- ==== Defs.lean ====
def Pre_Kernel [hPre_index_map_in_range : Cert.Pre_index_map_in_range.Facts] (m : (ℓ : Loc Cert.Kernel.nD Cert.Kernel.τ Cert.Kernel.sig) → Buf (Elt Bits) ℓ) : Prop :=
  ∀ c : Dev Cert.Kernel.nD,
    (Cert.Pre_index_map_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_index_map_in_range : Cert.Pre_index_map_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_map_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_zero_biases_without_near_ties [hPre_zero_biases_without_near_ties : Cert.Pre_zero_biases_without_near_ties.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_zero_biases_without_near_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_without_near_ties [hPre_zero_biases_without_near_ties : Cert.Pre_zero_biases_without_near_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_zero_biases_without_near_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] [hPre_index_map_in_range : Cert.Pre_index_map_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_index_map_in_range : Cert.Pre_index_map_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_zero_biases_without_near_ties [hKernelIdeal : Cert.KernelIdeal.Facts] [hPre_zero_biases_without_near_ties : Cert.Pre_zero_biases_without_near_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_without_near_ties m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_zero_biases_without_near_ties [hReferenceIdeal : Cert.ReferenceIdeal.Facts] [hPre_zero_biases_without_near_ties : Cert.Pre_zero_biases_without_near_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_without_near_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_zero_biases_without_near_ties [hKernelIdeal : Cert.KernelIdeal.Facts] [hReferenceIdeal : Cert.ReferenceIdeal.Facts] [hPre_zero_biases_without_near_ties : Cert.Pre_zero_biases_without_near_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_without_near_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_index_map_in_range : Cert.Pre_index_map_in_range.Facts) (hPre_zero_biases_without_near_ties : Cert.Pre_zero_biases_without_near_ties.Facts),
    quiescent_Kernel (hKernel := hKernel) (hPre_index_map_in_range := hPre_index_map_in_range)
    ∧ quiescent_KernelIdeal (hKernelIdeal := hKernelIdeal) (hPre_index_map_in_range := hPre_index_map_in_range)
    ∧ quiescent_KernelIdeal_pre_zero_biases_without_near_ties (hKernelIdeal := hKernelIdeal) (hPre_zero_biases_without_near_ties := hPre_zero_biases_without_near_ties)
    ∧ quiescent_ReferenceIdeal (hReferenceIdeal := hReferenceIdeal)
    ∧ quiescent_ReferenceIdeal_pre_zero_biases_without_near_ties (hReferenceIdeal := hReferenceIdeal) (hPre_zero_biases_without_near_ties := hPre_zero_biases_without_near_ties)
    ∧ preserves_Kernel_KernelIdeal
    ∧ algebraic_KernelIdeal_ReferenceIdeal_pre_zero_biases_without_near_ties (hKernelIdeal := hKernelIdeal) (hReferenceIdeal := hReferenceIdeal) (hPre_zero_biases_without_near_ties := hPre_zero_biases_without_near_ties)
-- ==== Pre_index_map_in_range.lean ====
abbrev S100000x128 : Shape := ⟨2, ![100000, 128]⟩
abbrev S128x100 : Shape := ⟨2, ![128, 100]⟩
abbrev S100 : Shape := ⟨1, ![100]⟩
abbrev S100x128 : Shape := ⟨2, ![100, 128]⟩
abbrev S128 : Shape := ⟨1, ![128]⟩
abbrev S1024x2 : Shape := ⟨2, ![1024, 2]⟩
abbrev S1024 : Shape := ⟨1, ![1024]⟩
abbrev S_ : Shape := ⟨0, ![]⟩

class Facts : Prop where
  bcast_S_S1024x2 : S_.BroadcastsInDim S1024x2 (![] : Fin 0 → Fin S1024x2.rank)

variable [Facts]

def fn {F : FTy → Type} [FloatOps F] (main_arg0 : FVec F S100000x128 .f32) (main_arg1 : FVec F S100000x128 .f32) (main_arg2 : FVec F S128x100 .f32) (main_arg3 : FVec F S100 .f32) (main_arg4 : FVec F S100x128 .f32) (main_arg5 : FVec F S128 .f32) (main_arg6 : FVec F S128x100 .f32) (main_arg7 : FVec F S100 .f32) (main_arg8 : FVec F S100x128 .f32) (main_arg9 : FVec F S128 .f32) (main_arg10 : IVec S1024x2 32) (main_arg11 : IVec S1024 32) (main_arg12 : IVec S1024 32) : IVec S1024x2 1 :=
  let main_c : IVec S_ 32 := constantI S_ 32 0#32
  let main_v0 : IVec S1024x2 32 := broadcastInDim S1024x2 ![] bcast_S_S1024x2 main_c
  let main_v1 : IVec S1024x2 1 := cmpi .sge main_arg10 main_v0
  let main_c_0 : IVec S_ 32 := constantI S_ 32 100000#32
  let main_v2 : IVec S1024x2 32 := broadcastInDim S1024x2 ![] bcast_S_S1024x2 main_c_0
  let main_v3 : IVec S1024x2 1 := cmpi .slt main_arg10 main_v2
  let main_v4 : IVec S1024x2 1 := andi main_v1 main_v3
  main_v4
-- ==== Pre_zero_biases_without_near_ties.lean ====
abbrev S100000x128 : Shape := ⟨2, ![100000, 128]⟩
abbrev S128x100 : Shape := ⟨2, ![128, 100]⟩
abbrev S100 : Shape := ⟨1, ![100]⟩
abbrev S100x128 : Shape := ⟨2, ![100, 128]⟩
abbrev S128 : Shape := ⟨1, ![128]⟩
abbrev S1024x2 : Shape := ⟨2, ![1024, 2]⟩
abbrev S1024 : Shape := ⟨1, ![1024]⟩
abbrev S1024x1 : Shape := ⟨2, ![1024, 1]⟩
abbrev S_ : Shape := ⟨0, ![]⟩
abbrev S1024x128 : Shape := ⟨2, ![1024, 128]⟩
abbrev S1024x100 : Shape := ⟨2, ![1024, 100]⟩
abbrev S1x100 : Shape := ⟨2, ![1, 100]⟩
abbrev S1x128 : Shape := ⟨2, ![1, 128]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩

class Facts : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S1024_S1024x1_0 : S1024.BroadcastsInDim S1024x1 (![0] : Fin 1 → Fin S1024x1.rank)
  bcast_S100_S1x100_1 : S100.BroadcastsInDim S1x100 (![1] : Fin 1 → Fin S1x100.rank)
  bcast_S1x100_S1024x100_0_1 : S1x100.BroadcastsInDim S1024x100 (![0, 1] : Fin 2 → Fin S1024x100.rank)
  bcast_S_S1024x100 : S_.BroadcastsInDim S1024x100 (![] : Fin 0 → Fin S1024x100.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x2 : S_.BroadcastsInDim S1024x2 (![] : Fin 0 → Fin S1024x2.rank)
  bcast_S_S100 : S_.BroadcastsInDim S100 (![] : Fin 0 → Fin S100.rank)
  bcast_S_S128 : S_.BroadcastsInDim S128 (![] : Fin 0 → Fin S128.rank)
  reducesTo_S1024x128_S1024_d1 : S1024x128.ReducesTo [1] S1024
  h_S_ : 0 < S_.numel
  reducesTo_S100000x128_S100000_d1 : S100000x128.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x128_S128x100000_1_0 : S100000x128.Transposes [1, 0] S128x100000
  bcast_S_S1024x100000 : S_.BroadcastsInDim S1024x100000 (![] : Fin 0 → Fin S1024x100000.rank)
  reducesTo_S1024x100000_S1024_d1 : S1024x100000.ReducesTo [1] S1024
  bcast_S_S1024x1 : S_.BroadcastsInDim S1024x1 (![] : Fin 0 → Fin S1024x1.rank)
  gather_S100000x128_S1024x1_S1024x128_1_0_n_n_0_1_1128_wf : GatherDims.WF S100000x128 S1024x1 S1024x128 [1] [0] [] [0] [] 1 ![1, 128]
  dot_S1024x128_S128x100_S1024x100_1_0_0_1_n_n_wf : DotDims.WF S1024x128 S128x100 S1024x100 [1] [0] [0] [1] [] []
  dot_S1024x100_S100x128_S1024x128_1_0_0_1_n_n_wf : DotDims.WF S1024x100 S100x128 S1024x128 [1] [0] [0] [1] [] []
  dot_S1024x128_S128x100000_S1024x100000_1_0_0_1_n_n_wf : DotDims.WF S1024x128 S128x100000 S1024x100000 [1] [0] [0] [1] [] []

variable [Facts]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x100_S1024x100_1_0_0_1_n_n : DotDims S1024x128 S128x100 S1024x100 where
  lhsContracting := [1]
  rhsContracting := [0]
  lhsNonContracting := [0]
  rhsNonContracting := [1]
  lhsBatch := []
  rhsBatch := []
  wf := dot_S1024x128_S128x100_S1024x100_1_0_0_1_n_n_wf
def dot_S1024x100_S100x128_S1024x128_1_0_0_1_n_n : DotDims S1024x100 S100x128 S1024x128 where
  lhsContracting := [1]
  rhsContracting := [0]
  lhsNonContracting := [0]
  rhsNonContracting := [1]
  lhsBatch := []
  rhsBatch := []
  wf := dot_S1024x100_S100x128_S1024x128_1_0_0_1_n_n_wf
def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_part6 {F : FTy → Type} [FloatOps F] (main_v42 : IVec S1024x2 1) (main_v44 : IVec S100 1) (main_v46 : IVec S128 1) (main_v48 : IVec S100 1) (main_v50 : IVec S128 1) (main_v89 : IVec S1024 1) (main_v103 : FVec F S1024x100000 .f32) (main_v114 : FVec F S1024x1 .f32) (main_v115 : IVec S1024x100000 32) (main_v116 : IVec S1024x1 32) : IVec S1024x2 1 × IVec S100 1 × IVec S128 1 × IVec S100 1 × IVec S128 1 × IVec S1024 1 × IVec S1024 1 :=
  let main_v117 : IVec S1024x100000 32 := broadcastInDim S1024x100000 ![0, 1] bcast_S1024x1_S1024x100000_0_1 main_v116
  let main_v118 : IVec S1024x100000 1 := cmpi .eq main_v115 main_v117
  let main_v119 : FVec F S1024x100000 .f32 := broadcastInDim S1024x100000 ![0, 1] bcast_S1024x1_S1024x100000_0_1 main_v114
  let main_v120 : IVec S1024x100000 1 := cmpf .ogt main_v103 main_v119
  let main_v121 : IVec S1024x100000 1 := ori main_v118 main_v120
  let main_c_25 : IVec S_ 1 := constantI S_ 1 1#1
  let main_v122 : IVec S1024 1 := (fun x v => Host.reduce IntOp.andi x v reducesTo_S1024x100000_S1024_d1 h_S_) main_v121 main_c_25
  let main_cst_26 : FVec F S_ .f32 := constant S_ .f32 0x3C23D70A#32
  let main_v123 : FVec F S1024x1 .f32 := broadcastInDim S1024x1 ![] bcast_S_S1024x1 main_cst_26
  let main_v124 : FVec F S1024x1 .f32 := subf main_v114 main_v123
  let main_v125 : FVec F S1024x100000 .f32 := broadcastInDim S1024x100000 ![0, 1] bcast_S1024x1_S1024x100000_0_1 main_v124
  let main_v126 : IVec S1024x100000 1 := cmpf .olt main_v103 main_v125
  let main_c_27 : IVec S_ 1 := constantI S_ 1 0#1
  let main_v127 : IVec S1024 1 := (fun x v => Host.reduce IntOp.ori x v reducesTo_S1024x100000_S1024_d1 h_S_) main_v126 main_c_27
  let main_v128 : IVec S1024 1 := ori main_v122 main_v127
  (main_v42, main_v44, main_v46, main_v48, main_v50, main_v89, main_v128)

def fn_part5 {F : FTy → Type} [FloatOps F] (main_arg0 : FVec F S100000x128 .f32) (main_v3 : IVec S1024 32) (main_v37 : FVec F S1024x128 .f32) (main_v42 : IVec S1024x2 1) (main_v44 : IVec S100 1) (main_v46 : IVec S128 1) (main_v48 : IVec S100 1) (main_v50 : IVec S128 1) (main_v89 : IVec S1024 1) (main_v95 : FVec F S1x100000 .f32) (main_v96 : FVec F S1024x100000 .f32) : IVec S1024x2 1 × IVec S100 1 × IVec S128 1 × IVec S100 1 × IVec S128 1 × IVec S1024 1 × IVec S1024 1 :=
  let main_v97 : FVec F S1024x100000 .f32 := broadcastInDim S1024x100000 ![0, 1] bcast_S1x100000_S1024x100000_0_1 main_v95
  let main_v98 : FVec F S1024x100000 .f32 := addf main_v96 main_v97
  let main_v99 : FVec F S128x100000 .f32 := (transpose S128x100000 [1, 0] · transposes_S100000x128_S128x100000_1_0) main_arg0
  let main_v100 : FVec F S1024x100000 .f32 := (fun l r => Host.dotGeneral dot_S1024x128_S128x100000_S1024x100000_1_0_0_1_n_n none l r) main_v37 main_v99
  let main_cst_21 : FVec F S_ .f32 := constant S_ .f32 0x40000000#32
  let main_v101 : FVec F S1024x100000 .f32 := broadcastInDim S1024x100000 ![] bcast_S_S1024x100000 main_cst_21
  let main_v102 : FVec F S1024x100000 .f32 := mulf main_v101 main_v100
  let main_v103 : FVec F S1024x100000 .f32 := subf main_v98 main_v102
  let main_c_22 : IVec S_ 32 := constantI S_ 32 0#32
  let main_v104 : IVec S1024 32 := broadcastInDim S1024 ![] bcast_S_S1024 main_c_22
  let main_v105 : IVec S1024 1 := cmpi .slt main_v3 main_v104
  let main_c_23 : IVec S_ 32 := constantI S_ 32 100000#32
  let main_v106 : IVec S1024 32 := broadcastInDim S1024 ![] bcast_S_S1024 main_c_23
  let main_v107 : IVec S1024 32 := addi main_v3 main_v106
  let main_v108 : IVec S1024 32 := select main_v105 main_v107 main_v3
  let main_v109 : IVec S1024x1 32 := broadcastInDim S1024x1 ![0] bcast_S1024_S1024x1_0 main_v108
  let main_v110 : FVec F S1024x128 .f32 := (fun x i => Host.gather gather_S100000x128_S1024x1_S1024x128_1_0_n_n_0_1_1128 x i) main_arg0 main_v109
  let main_v111 : FVec F S1024x128 .f32 := subf main_v37 main_v110
  let main_v112 : FVec F S1024x128 .f32 := mulf main_v111 main_v111
  let main_cst_24 : FVec F S_ .f32 := constant S_ .f32 0x00000000#32
  let main_v113 : FVec F S1024 .f32 := (fun x v => Host.reduceAdd x v reducesTo_S1024x128_S1024_d1 h_S_) main_v112 main_cst_24
  let main_v114 : FVec F S1024x1 .f32 := broadcastInDim S1024x1 ![0] bcast_S1024_S1024x1_0 main_v113
  let main_v115 : IVec S1024x100000 32 := iotaInDim S1024x100000 32 1
  let main_v116 : IVec S1024x1 32 := broadcastInDim S1024x1 ![0] bcast_S1024_S1024x1_0 main_v3
  fn_part6 (F := F) main_v42 main_v44 main_v46 main_v48 main_v50 main_v89 main_v103 main_v114 main_v115 main_v116

def fn_part4 {F : FTy → Type} [FloatOps F] (main_arg0 : FVec F S100000x128 .f32) (main_v3 : IVec S1024 32) (main_v37 : FVec F S1024x128 .f32) (main_v42 : IVec S1024x2 1) (main_v44 : IVec S100 1) (main_v46 : IVec S128 1) (main_v48 : IVec S100 1) (main_v50 : IVec S128 1) (main_v64 : FVec F S1024x100000 .f32) (main_v75 : FVec F S1024x1 .f32) (main_v76 : IVec S1024x100000 32) (main_v77 : IVec S1024x1 32) : IVec S1024x2 1 × IVec S100 1 × IVec S128 1 × IVec S100 1 × IVec S128 1 × IVec S1024 1 × IVec S1024 1 :=
  let main_v78 : IVec S1024x100000 32 := broadcastInDim S1024x100000 ![0, 1] bcast_S1024x1_S1024x100000_0_1 main_v77
  let main_v79 : IVec S1024x100000 1 := cmpi .eq main_v76 main_v78
  let main_v80 : FVec F S1024x100000 .f32 := broadcastInDim S1024x100000 ![0, 1] bcast_S1024x1_S1024x100000_0_1 main_v75
  let main_v81 : IVec S1024x100000 1 := cmpf .ogt main_v64 main_v80
  let main_v82 : IVec S1024x100000 1 := ori main_v79 main_v81
  let main_c_16 : IVec S_ 1 := constantI S_ 1 1#1
  let main_v83 : IVec S1024 1 := (fun x v => Host.reduce IntOp.andi x v reducesTo_S1024x100000_S1024_d1 h_S_) main_v82 main_c_16
  let main_cst_17 : FVec F S_ .f32 := constant S_ .f32 0x3C23D70A#32
  let main_v84 : FVec F S1024x1 .f32 := broadcastInDim S1024x1 ![] bcast_S_S1024x1 main_cst_17
  let main_v85 : FVec F S1024x1 .f32 := subf main_v75 main_v84
  let main_v86 : FVec F S1024x100000 .f32 := broadcastInDim S1024x100000 ![0, 1] bcast_S1024x1_S1024x100000_0_1 main_v85
  let main_v87 : IVec S1024x100000 1 := cmpf .olt main_v64 main_v86
  let main_c_18 : IVec S_ 1 := constantI S_ 1 0#1
  let main_v88 : IVec S1024 1 := (fun x v => Host.reduce IntOp.ori x v reducesTo_S1024x100000_S1024_d1 h_S_) main_v87 main_c_18
  let main_v89 : IVec S1024 1 := ori main_v83 main_v88
  let main_v90 : FVec F S1024x128 .f32 := mulf main_v37 main_v37
  let main_cst_19 : FVec F S_ .f32 := constant S_ .f32 0x00000000#32
  let main_v91 : FVec F S1024 .f32 := (fun x v => Host.reduceAdd x v reducesTo_S1024x128_S1024_d1 h_S_) main_v90 main_cst_19
  let main_v92 : FVec F S1024x1 .f32 := broadcastInDim S1024x1 ![0] bcast_S1024_S1024x1_0 main_v91
  let main_v93 : FVec F S100000x128 .f32 := mulf main_arg0 main_arg0
  let main_cst_20 : FVec F S_ .f32 := constant S_ .f32 0x00000000#32
  let main_v94 : FVec F S100000 .f32 := (fun x v => Host.reduceAdd x v reducesTo_S100000x128_S100000_d1 h_S_) main_v93 main_cst_20
  let main_v95 : FVec F S1x100000 .f32 := broadcastInDim S1x100000 ![1] bcast_S100000_S1x100000_1 main_v94
  let main_v96 : FVec F S1024x100000 .f32 := broadcastInDim S1024x100000 ![0, 1] bcast_S1024x1_S1024x100000_0_1 main_v92
  fn_part5 (F := F) main_arg0 main_v3 main_v37 main_v42 main_v44 main_v46 main_v48 main_v50 main_v89 main_v95 main_v96

def fn_part3 {F : FTy → Type} [FloatOps F] (main_arg0 : FVec F S100000x128 .f32) (main_arg1 : FVec F S100000x128 .f32) (main_v1 : IVec S1024 32) (main_v3 : IVec S1024 32) (main_v20 : FVec F S1024x128 .f32) (main_v37 : FVec F S1024x128 .f32) (main_v42 : IVec S1024x2 1) (main_v44 : IVec S100 1) (main_v46 : IVec S128 1) (main_v48 : IVec S100 1) (main_v50 : IVec S128 1) (main_v56 : FVec F S1x100000 .f32) (main_v57 : FVec F S1024x100000 .f32) : IVec S1024x2 1 × IVec S100 1 × IVec S128 1 × IVec S100 1 × IVec S128 1 × IVec S1024 1 × IVec S1024 1 :=
  let main_v58 : FVec F S1024x100000 .f32 := broadcastInDim S1024x100000 ![0, 1] bcast_S1x100000_S1024x100000_0_1 main_v56
  let main_v59 : FVec F S1024x100000 .f32 := addf main_v57 main_v58
  let main_v60 : FVec F S128x100000 .f32 := (transpose S128x100000 [1, 0] · transposes_S100000x128_S128x100000_1_0) main_arg1
  let main_v61 : FVec F S1024x100000 .f32 := (fun l r => Host.dotGeneral dot_S1024x128_S128x100000_S1024x100000_1_0_0_1_n_n none l r) main_v20 main_v60
  let main_cst_12 : FVec F S_ .f32 := constant S_ .f32 0x40000000#32
  let main_v62 : FVec F S1024x100000 .f32 := broadcastInDim S1024x100000 ![] bcast_S_S1024x100000 main_cst_12
  let main_v63 : FVec F S1024x100000 .f32 := mulf main_v62 main_v61
  let main_v64 : FVec F S1024x100000 .f32 := subf main_v59 main_v63
  let main_c_13 : IVec S_ 32 := constantI S_ 32 0#32
  let main_v65 : IVec S1024 32 := broadcastInDim S1024 ![] bcast_S_S1024 main_c_13
  let main_v66 : IVec S1024 1 := cmpi .slt main_v1 main_v65
  let main_c_14 : IVec S_ 32 := constantI S_ 32 100000#32
  let main_v67 : IVec S1024 32 := broadcastInDim S1024 ![] bcast_S_S1024 main_c_14
  let main_v68 : IVec S1024 32 := addi main_v1 main_v67
  let main_v69 : IVec S1024 32 := select main_v66 main_v68 main_v1
  let main_v70 : IVec S1024x1 32 := broadcastInDim S1024x1 ![0] bcast_S1024_S1024x1_0 main_v69
  let main_v71 : FVec F S1024x128 .f32 := (fun x i => Host.gather gather_S100000x128_S1024x1_S1024x128_1_0_n_n_0_1_1128 x i) main_arg1 main_v70
  let main_v72 : FVec F S1024x128 .f32 := subf main_v20 main_v71
  let main_v73 : FVec F S1024x128 .f32 := mulf main_v72 main_v72
  let main_cst_15 : FVec F S_ .f32 := constant S_ .f32 0x00000000#32
  let main_v74 : FVec F S1024 .f32 := (fun x v => Host.reduceAdd x v reducesTo_S1024x128_S1024_d1 h_S_) main_v73 main_cst_15
  let main_v75 : FVec F S1024x1 .f32 := broadcastInDim S1024x1 ![0] bcast_S1024_S1024x1_0 main_v74
  let main_v76 : IVec S1024x100000 32 := iotaInDim S1024x100000 32 1
  let main_v77 : IVec S1024x1 32 := broadcastInDim S1024x1 ![0] bcast_S1024_S1024x1_0 main_v1
  fn_part4 (F := F) main_arg0 main_v3 main_v37 main_v42 main_v44 main_v46 main_v48 main_v50 main_v64 main_v75 main_v76 main_v77

def fn_part2 {F : FTy → Type} [FloatOps F] (main_arg0 : FVec F S100000x128 .f32) (main_arg1 : FVec F S100000x128 .f32) (main_arg3 : FVec F S100 .f32) (main_arg5 : FVec F S128 .f32) (main_arg7 : FVec F S100 .f32) (main_arg9 : FVec F S128 .f32) (main_arg10 : IVec S1024x2 32) (main_v1 : IVec S1024 32) (main_v3 : IVec S1024 32) (main_v20 : FVec F S1024x128 .f32) (main_v37 : FVec F S1024x128 .f32) (main_v39 : IVec S1024x2 1) (main_c_5 : IVec S_ 32) : IVec S1024x2 1 × IVec S100 1 × IVec S128 1 × IVec S100 1 × IVec S128 1 × IVec S1024 1 × IVec S1024 1 :=
  let main_v40 : IVec S1024x2 32 := broadcastInDim S1024x2 ![] bcast_S_S1024x2 main_c_5
  let main_v41 : IVec S1024x2 1 := cmpi .slt main_arg10 main_v40
  let main_v42 : IVec S1024x2 1 := andi main_v39 main_v41
  let main_cst_6 : FVec F S_ .f32 := constant S_ .f32 0x00000000#32
  let main_v43 : FVec F S100 .f32 := broadcastInDim S100 ![] bcast_S_S100 main_cst_6
  let main_v44 : IVec S100 1 := cmpf .oeq main_arg3 main_v43
  let main_cst_7 : FVec F S_ .f32 := constant S_ .f32 0x00000000#32
  let main_v45 : FVec F S128 .f32 := broadcastInDim S128 ![] bcast_S_S128 main_cst_7
  let main_v46 : IVec S128 1 := cmpf .oeq main_arg5 main_v45
  let main_cst_8 : FVec F S_ .f32 := constant S_ .f32 0x00000000#32
  let main_v47 : FVec F S100 .f32 := broadcastInDim S100 ![] bcast_S_S100 main_cst_8
  let main_v48 : IVec S100 1 := cmpf .oeq main_arg7 main_v47
  let main_cst_9 : FVec F S_ .f32 := constant S_ .f32 0x00000000#32
  let main_v49 : FVec F S128 .f32 := broadcastInDim S128 ![] bcast_S_S128 main_cst_9
  let main_v50 : IVec S128 1 := cmpf .oeq main_arg9 main_v49
  let main_v51 : FVec F S1024x128 .f32 := mulf main_v20 main_v20
  let main_cst_10 : FVec F S_ .f32 := constant S_ .f32 0x00000000#32
  let main_v52 : FVec F S1024 .f32 := (fun x v => Host.reduceAdd x v reducesTo_S1024x128_S1024_d1 h_S_) main_v51 main_cst_10
  let main_v53 : FVec F S1024x1 .f32 := broadcastInDim S1024x1 ![0] bcast_S1024_S1024x1_0 main_v52
  let main_v54 : FVec F S100000x128 .f32 := mulf main_arg1 main_arg1
  let main_cst_11 : FVec F S_ .f32 := constant S_ .f32 0x00000000#32
  let main_v55 : FVec F S100000 .f32 := (fun x v => Host.reduceAdd x v reducesTo_S100000x128_S100000_d1 h_S_) main_v54 main_cst_11
  let main_v56 : FVec F S1x100000 .f32 := broadcastInDim S1x100000 ![1] bcast_S100000_S1x100000_1 main_v55
  let main_v57 : FVec F S1024x100000 .f32 := broadcastInDim S1024x100000 ![0, 1] bcast_S1024x1_S1024x100000_0_1 main_v53
  fn_part3 (F := F) main_arg0 main_arg1 main_v1 main_v3 main_v20 main_v37 main_v42 main_v44 main_v46 main_v48 main_v50 main_v56 main_v57

def fn_part1 {F : FTy → Type} [FloatOps F] (main_arg0 : FVec F S100000x128 .f32) (main_arg1 : FVec F S100000x128 .f32) (main_arg3 : FVec F S100 .f32) (main_arg5 : FVec F S128 .f32) (main_arg6 : FVec F S128x100 .f32) (main_arg7 : FVec F S100 .f32) (main_arg8 : FVec F S100x128 .f32) (main_arg9 : FVec F S128 .f32) (main_arg10 : IVec S1024x2 32) (main_v1 : IVec S1024 32) (main_v3 : IVec S1024 32) (main_v20 : FVec F S1024x128 .f32) : IVec S1024x2 1 × IVec S100 1 × IVec S128 1 × IVec S100 1 × IVec S128 1 × IVec S1024 1 × IVec S1024 1 :=
  let main_c_1 : IVec S_ 32 := constantI S_ 32 0#32
  let main_v21 : IVec S1024 32 := broadcastInDim S1024 ![] bcast_S_S1024 main_c_1
  let main_v22 : IVec S1024 1 := cmpi .slt main_v3 main_v21
  let main_c_2 : IVec S_ 32 := constantI S_ 32 100000#32
  let main_v23 : IVec S1024 32 := broadcastInDim S1024 ![] bcast_S_S1024 main_c_2
  let main_v24 : IVec S1024 32 := addi main_v3 main_v23
  let main_v25 : IVec S1024 32 := select main_v22 main_v24 main_v3
  let main_v26 : IVec S1024x1 32 := broadcastInDim S1024x1 ![0] bcast_S1024_S1024x1_0 main_v25
  let main_v27 : FVec F S1024x128 .f32 := (fun x i => Host.gather gather_S100000x128_S1024x1_S1024x128_1_0_n_n_0_1_1128 x i) main_arg1 main_v26
  let main_v28 : FVec F S1024x100 .f32 := (fun l r => Host.dotGeneral dot_S1024x128_S128x100_S1024x100_1_0_0_1_n_n none l r) main_v27 main_arg6
  let main_v29 : FVec F S1x100 .f32 := broadcastInDim S1x100 ![1] bcast_S100_S1x100_1 main_arg7
  let main_v30 : FVec F S1024x100 .f32 := broadcastInDim S1024x100 ![0, 1] bcast_S1x100_S1024x100_0_1 main_v29
  let main_v31 : FVec F S1024x100 .f32 := addf main_v28 main_v30
  let main_cst_3 : FVec F S_ .f32 := constant S_ .f32 0x00000000#32
  let main_v32 : FVec F S1024x100 .f32 := broadcastInDim S1024x100 ![] bcast_S_S1024x100 main_cst_3
  let main_v33 : FVec F S1024x100 .f32 := maximumf main_v31 main_v32
  let main_v34 : FVec F S1024x128 .f32 := (fun l r => Host.dotGeneral dot_S1024x100_S100x128_S1024x128_1_0_0_1_n_n none l r) main_v33 main_arg8
  let main_v35 : FVec F S1x128 .f32 := broadcastInDim S1x128 ![1] bcast_S128_S1x128_1 main_arg9
  let main_v36 : FVec F S1024x128 .f32 := broadcastInDim S1024x128 ![0, 1] bcast_S1x128_S1024x128_0_1 main_v35
  let main_v37 : FVec F S1024x128 .f32 := addf main_v34 main_v36
  let main_c_4 : IVec S_ 32 := constantI S_ 32 0#32
  let main_v38 : IVec S1024x2 32 := broadcastInDim S1024x2 ![] bcast_S_S1024x2 main_c_4
  let main_v39 : IVec S1024x2 1 := cmpi .sge main_arg10 main_v38
  let main_c_5 : IVec S_ 32 := constantI S_ 32 100000#32
  fn_part2 (F := F) main_arg0 main_arg1 main_arg3 main_arg5 main_arg7 main_arg9 main_arg10 main_v1 main_v3 main_v20 main_v37 main_v39 main_c_5

def fn {F : FTy → Type} [FloatOps F] (main_arg0 : FVec F S100000x128 .f32) (main_arg1 : FVec F S100000x128 .f32) (main_arg2 : FVec F S128x100 .f32) (main_arg3 : FVec F S100 .f32) (main_arg4 : FVec F S100x128 .f32) (main_arg5 : FVec F S128 .f32) (main_arg6 : FVec F S128x100 .f32) (main_arg7 : FVec F S100 .f32) (main_arg8 : FVec F S100x128 .f32) (main_arg9 : FVec F S128 .f32) (main_arg10 : IVec S1024x2 32) (main_arg11 : IVec S1024 32) (main_arg12 : IVec S1024 32) : IVec S1024x2 1 × IVec S100 1 × IVec S128 1 × IVec S100 1 × IVec S128 1 × IVec S1024 1 × IVec S1024 1 :=
  let main_v0 : IVec S1024x1 32 := (extractStridedSlice S1024x1 ![0, 0] · slices_S1024x2_S1024x1_0_0) main_arg10
  let main_v1 : IVec S1024 32 := shapeCast S1024 main_v0 shapeCasts_S1024x1_S1024
  let main_v2 : IVec S1024x1 32 := (extractStridedSlice S1024x1 ![0, 1] · slices_S1024x2_S1024x1_0_1) main_arg10
  let main_v3 : IVec S1024 32 := shapeCast S1024 main_v2 shapeCasts_S1024x1_S1024
  let main_c : IVec S_ 32 := constantI S_ 32 0#32
  let main_v4 : IVec S1024 32 := broadcastInDim S1024 ![] bcast_S_S1024 main_c
  let main_v5 : IVec S1024 1 := cmpi .slt main_v1 main_v4
  let main_c_0 : IVec S_ 32 := constantI S_ 32 100000#32
  let main_v6 : IVec S1024 32 := broadcastInDim S1024 ![] bcast_S_S1024 main_c_0
  let main_v7 : IVec S1024 32 := addi main_v1 main_v6
  let main_v8 : IVec S1024 32 := select main_v5 main_v7 main_v1
  let main_v9 : IVec S1024x1 32 := broadcastInDim S1024x1 ![0] bcast_S1024_S1024x1_0 main_v8
  let main_v10 : FVec F S1024x128 .f32 := (fun x i => Host.gather gather_S100000x128_S1024x1_S1024x128_1_0_n_n_0_1_1128 x i) main_arg0 main_v9
  let main_v11 : FVec F S1024x100 .f32 := (fun l r => Host.dotGeneral dot_S1024x128_S128x100_S1024x100_1_0_0_1_n_n none l r) main_v10 main_arg2
  let main_v12 : FVec F S1x100 .f32 := broadcastInDim S1x100 ![1] bcast_S100_S1x100_1 main_arg3
  let main_v13 : FVec F S1024x100 .f32 := broadcastInDim S1024x100 ![0, 1] bcast_S1x100_S1024x100_0_1 main_v12
  let main_v14 : FVec F S1024x100 .f32 := addf main_v11 main_v13
  let main_cst : FVec F S_ .f32 := constant S_ .f32 0x00000000#32
  let main_v15 : FVec F S1024x100 .f32 := broadcastInDim S1024x100 ![] bcast_S_S1024x100 main_cst
  let main_v16 : FVec F S1024x100 .f32 := maximumf main_v14 main_v15
  let main_v17 : FVec F S1024x128 .f32 := (fun l r => Host.dotGeneral dot_S1024x100_S100x128_S1024x128_1_0_0_1_n_n none l r) main_v16 main_arg4
  let main_v18 : FVec F S1x128 .f32 := broadcastInDim S1x128 ![1] bcast_S128_S1x128_1 main_arg5
  let main_v19 : FVec F S1024x128 .f32 := broadcastInDim S1024x128 ![0, 1] bcast_S1x128_S1024x128_0_1 main_v18
  let main_v20 : FVec F S1024x128 .f32 := addf main_v17 main_v19
  fn_part1 (F := F) main_arg0 main_arg1 main_arg3 main_arg5 main_arg6 main_arg7 main_arg8 main_arg9 main_arg10 main_v1 main_v3 main_v20
-- ==== Kernel.lean ====
abbrev S100000x128 : Shape := ⟨2, ![100000, 128]⟩
abbrev S128x100 : Shape := ⟨2, ![128, 100]⟩
abbrev S100 : Shape := ⟨1, ![100]⟩
abbrev S100x128 : Shape := ⟨2, ![100, 128]⟩
abbrev S128 : Shape := ⟨1, ![128]⟩
abbrev S1024x2 : Shape := ⟨2, ![1024, 2]⟩
abbrev S1024 : Shape := ⟨1, ![1024]⟩
abbrev S1024x1 : Shape := ⟨2, ![1024, 1]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S1x1 : Shape := ⟨2, ![1, 1]⟩
abbrev S4000x128 : Shape := ⟨2, ![4000, 128]⟩
abbrev S1x1024 : Shape := ⟨2, ![1, 1024]⟩
abbrev S1024x100 : Shape := ⟨2, ![1024, 100]⟩
abbrev S1x128 : Shape := ⟨2, ![1, 128]⟩
abbrev S1x1024x1 : Shape := ⟨3, ![1, 1024, 1]⟩
abbrev S1 : Shape := ⟨1, ![1]⟩
abbrev S1x1x1 : Shape := ⟨3, ![1, 1, 1]⟩
abbrev S4000x100 : Shape := ⟨2, ![4000, 100]⟩
abbrev S4000 : Shape := ⟨1, ![4000]⟩
abbrev S4000x1 : Shape := ⟨2, ![4000, 1]⟩
abbrev S1x4000x1 : Shape := ⟨3, ![1, 4000, 1]⟩
abbrev S4000x1024 : Shape := ⟨2, ![4000, 1024]⟩
abbrev S1x1x1024 : Shape := ⟨3, ![1, 1, 1024]⟩

abbrev nBuf : Table → Nat
  | .hbm => 23
  | .local .tc .vmem => 21
  | .local .tc .smem => 4
  | .local .scVector .vmem => 2
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S128x100, .f32⟩
  | .hbm, ⟨3, _⟩ => ⟨S100, .f32⟩
  | .hbm, ⟨4, _⟩ => ⟨S100x128, .f32⟩
  | .hbm, ⟨5, _⟩ => ⟨S128, .f32⟩
  | .hbm, ⟨6, _⟩ => ⟨S128x100, .f32⟩
  | .hbm, ⟨7, _⟩ => ⟨S100, .f32⟩
  | .hbm, ⟨8, _⟩ => ⟨S100x128, .f32⟩
  | .hbm, ⟨9, _⟩ => ⟨S128, .f32⟩
  | .hbm, ⟨10, _⟩ => ⟨S1024x2, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S1024x1, .i32⟩
  | .hbm, ⟨16, _⟩ => ⟨S1024, .i32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1x1, .f32⟩
  | .hbm, ⟨22, _⟩ => ⟨S_, .f32⟩
  | .local .tc .vmem, ⟨0, _⟩ => ⟨S4000x128, .f32⟩
  | .local .tc .vmem, ⟨1, _⟩ => ⟨S4000x128, .f32⟩
  | .local .tc .vmem, ⟨2, _⟩ => ⟨S4000x128, .f32⟩
  | .local .tc .vmem, ⟨3, _⟩ => ⟨S4000x128, .f32⟩
  | .local .tc .vmem, ⟨4, _⟩ => ⟨S128x100, .f32⟩
  | .local .tc .vmem, ⟨5, _⟩ => ⟨S100x128, .f32⟩
  | .local .tc .vmem, ⟨6, _⟩ => ⟨S128x100, .f32⟩
  | .local .tc .vmem, ⟨7, _⟩ => ⟨S100x128, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1x1, .f32⟩
  | .local .tc .vmem, ⟨13, _⟩ => ⟨S1024x128, .f32⟩
  | .local .tc .vmem, ⟨14, _⟩ => ⟨S1024x128, .f32⟩
  | .local .tc .vmem, ⟨15, _⟩ => ⟨S1x1024, .f32⟩
  | .local .tc .vmem, ⟨16, _⟩ => ⟨S1x1024, .f32⟩
  | .local .tc .vmem, ⟨17, _⟩ => ⟨S1x1024, .f32⟩
  | .local .tc .vmem, ⟨18, _⟩ => ⟨S1x1024, .f32⟩
  | .local .tc .vmem, ⟨19, _⟩ => ⟨S1x1024, .f32⟩
  | .local .tc .vmem, ⟨20, _⟩ => ⟨S1x1024, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .tc .smem, ⟨3, _⟩ => ⟨S1x1, .f32⟩
  | .local .scVector .vmem, ⟨0, _⟩ => ⟨S32, .i32⟩
  | .local .scVector .vmem, ⟨1, _⟩ => ⟨S32x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v5 : Ref sig .tc := ⟨.hbm, 21, rfl⟩
abbrev main_v6 : Ref sig .tc := ⟨.hbm, 22, rfl⟩
abbrev main_arg0_scv : Ref sig .scVector := ⟨.hbm, 0, rfl⟩
abbrev main_arg1_scv : Ref sig .scVector := ⟨.hbm, 1, rfl⟩
abbrev main_v1_scv : Ref sig .scVector := ⟨.hbm, 14, rfl⟩
abbrev main_v3_scv : Ref sig .scVector := ⟨.hbm, 16, rfl⟩
abbrev main_v4_0_scv : Ref sig .scVector := ⟨.hbm, 17, rfl⟩
abbrev main_v4_1_scv : Ref sig .scVector := ⟨.hbm, 18, rfl⟩
abbrev main_v4_2_scv : Ref sig .scVector := ⟨.hbm, 19, rfl⟩
abbrev main_v4_3_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc1_scratch7 : Ref sig .tc := ⟨.vmem, 20, rfl⟩
abbrev cc1_scratch8 : Ref sig .tc := ⟨.smem, 0, rfl⟩
abbrev cc1_scratch9 : Ref sig .tc := ⟨.smem, 1, rfl⟩
abbrev cc1_scratch10 : Ref sig .tc := ⟨.smem, 2, rfl⟩
abbrev cc1_scratch11 : Ref sig .tc := ⟨.smem, 3, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15_r1 : BitVec 32 := 0#32
  ![v2.toNat, 0]
abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v81 : BitVec 1 := Scalar.cmpi .eq arg0 c24_i32
  let v82 : BitVec 32 := Scalar.extui v81
  let c0_i32_61 : BitVec 32 := 0#32
  let v83 : BitVec 1 := Scalar.cmpi .ne v82 c0_i32_61
  v83

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S128x100 : Shape := ⟨2, ![128, 100]⟩
abbrev S100 : Shape := ⟨1, ![100]⟩
abbrev S100x128 : Shape := ⟨2, ![100, 128]⟩
abbrev S128 : Shape := ⟨1, ![128]⟩
abbrev S1024x2 : Shape := ⟨2, ![1024, 2]⟩
abbrev S1024 : Shape := ⟨1, ![1024]⟩
abbrev S100000x100 : Shape := ⟨2, ![100000, 100]⟩
abbrev S1x100 : Shape := ⟨2, ![1, 100]⟩
abbrev S_ : Shape := ⟨0, ![]⟩
abbrev S1x128 : Shape := ⟨2, ![1, 128]⟩
abbrev S100000 : Shape := ⟨1, ![100000]⟩
abbrev S1024x1 : Shape := ⟨2, ![1024, 1]⟩
abbrev S1024x128 : Shape := ⟨2, ![1024, 128]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 228
  | .vmem => 0
  | .smem => 0
  | _ => 0

abbrev hbmTy0_0 (i : Nat) : BufTy := match i % 128 with
  | 0 => ⟨S100000x128, .f32⟩
  | 1 => ⟨S100000x128, .f32⟩
  | 2 => ⟨S128x100, .f32⟩
  | 3 => ⟨S100, .f32⟩
  | 4 => ⟨S100x128, .f32⟩
  | 5 => ⟨S128, .f32⟩
  | 6 => ⟨S128x100, .f32⟩
  | 7 => ⟨S100, .f32⟩
  | 8 => ⟨S100x128, .f32⟩
  | 9 => ⟨S128, .f32⟩
  | 10 => ⟨S1024x2, .i32⟩
  | 11 => ⟨S1024, .i32⟩
  | 12 => ⟨S1024, .i32⟩
  | 13 => ⟨S100000x100, .f32⟩
  | 14 => ⟨S1x100, .f32⟩
  | 15 => ⟨S100000x100, .f32⟩
  | 16 => ⟨S100000x100, .f32⟩
  | 17 => ⟨S_, .f32⟩
  | 18 => ⟨S100000x100, .f32⟩
  | 19 => ⟨S100000x100, .f32⟩
  | 20 => ⟨S100000x128, .f32⟩
  | 21 => ⟨S1x128, .f32⟩
  | 22 => ⟨S100000x128, .f32⟩
  | 23 => ⟨S100000x128, .f32⟩
  | 24 => ⟨S100000x100, .f32⟩
  | 25 => ⟨S1x100, .f32⟩
  | 26 => ⟨S100000x100, .f32⟩
  | 27 => ⟨S100000x100, .f32⟩
  | 28 => ⟨S_, .f32⟩
  | 29 => ⟨S100000x100, .f32⟩
  | 30 => ⟨S100000x100, .f32⟩
  | 31 => ⟨S100000x128, .f32⟩
  | 32 => ⟨S1x128, .f32⟩
  | 33 => ⟨S100000x128, .f32⟩
  | 34 => ⟨S100000x128, .f32⟩
  | 35 => ⟨S100000x100, .f32⟩
  | 36 => ⟨S1x100, .f32⟩
  | 37 => ⟨S100000x100, .f32⟩
  | 38 => ⟨S100000x100, .f32⟩
  | 39 => ⟨S_, .f32⟩
  | 40 => ⟨S100000x100, .f32⟩
  | 41 => ⟨S100000x100, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S100000, .f32⟩
  | 48 => ⟨S100000, .f32⟩
  | 49 => ⟨S_, .f32⟩
  | 50 => ⟨S_, .f32⟩
  | 51 => ⟨S_, .f32⟩
  | 52 => ⟨S_, .f32⟩
  | 53 => ⟨S100000x100, .f32⟩
  | 54 => ⟨S1x100, .f32⟩
  | 55 => ⟨S100000x100, .f32⟩
  | 56 => ⟨S100000x100, .f32⟩
  | 57 => ⟨S_, .f32⟩
  | 58 => ⟨S100000x100, .f32⟩
  | 59 => ⟨S100000x100, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000, .f32⟩
  | 66 => ⟨S100000, .f32⟩
  | 67 => ⟨S_, .f32⟩
  | 68 => ⟨S_, .f32⟩
  | 69 => ⟨S_, .f32⟩
  | 70 => ⟨S_, .f32⟩
  | 71 => ⟨S1024x1, .i32⟩
  | 72 => ⟨S1024, .i32⟩
  | 73 => ⟨S1024x1, .i32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S1024x128, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024x128, .f32⟩
  | 93 => ⟨S1024x128, .f32⟩
  | 94 => ⟨S1024, .f32⟩
  | 95 => ⟨S1024, .f32⟩
  | 96 => ⟨S_, .f32⟩
  | 97 => ⟨S_, .f32⟩
  | 98 => ⟨S_, .f32⟩
  | 99 => ⟨S_, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024x128, .f32⟩
  | 109 => ⟨S1024x128, .f32⟩
  | 110 => ⟨S_, .f32⟩
  | 111 => ⟨S1024, .f32⟩
  | 112 => ⟨S1024x1, .f32⟩
  | 113 => ⟨S100000x128, .f32⟩
  | 114 => ⟨S_, .f32⟩
  | 115 => ⟨S100000, .f32⟩
  | 116 => ⟨S1x100000, .f32⟩
  | 117 => ⟨S1024x100000, .f32⟩
  | 118 => ⟨S1024x100000, .f32⟩
  | 119 => ⟨S1024x100000, .f32⟩
  | 120 => ⟨S128x100000, .f32⟩
  | 121 => ⟨S1024x100000, .f32⟩
  | 122 => ⟨S_, .f32⟩
  | 123 => ⟨S1024x100000, .f32⟩
  | 124 => ⟨S1024x100000, .f32⟩
  | 125 => ⟨S1024x100000, .f32⟩
  | 126 => ⟨S_, .f32⟩
  | 127 => ⟨S1024x100000, .f32⟩
  | _ => ⟨S100000x128, .f32⟩

abbrev hbmTy0_1 (i : Nat) : BufTy := match i % 128 with
  | 0 => ⟨S1024x100000, .f32⟩
  | 1 => ⟨S1024x100000, .f32⟩
  | 2 => ⟨S1024x100000, .f32⟩
  | 3 => ⟨S1024x1, .f32⟩
  | 4 => ⟨S1024x1, .i32⟩
  | 5 => ⟨S1024, .f32⟩
  | 6 => ⟨S1024, .f32⟩
  | 7 => ⟨S1024, .i32⟩
  | 8 => ⟨S1024, .i1⟩
  | 9 => ⟨S1024, .f32⟩
  | 10 => ⟨S1024, .f32⟩
  | 11 => ⟨S1024, .f32⟩
  | 12 => ⟨S_, .f32⟩
  | 13 => ⟨S_, .f32⟩
  | 14 => ⟨S1024, .f32⟩
  | 15 => ⟨S1024, .f32⟩
  | 16 => ⟨S_, .f32⟩
  | 17 => ⟨S_, .f32⟩
  | 18 => ⟨S_, .f32⟩
  | 19 => ⟨S_, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024x128, .f32⟩
  | 29 => ⟨S_, .i32⟩
  | 30 => ⟨S1024, .i32⟩
  | 31 => ⟨S1024, .i1⟩
  | 32 => ⟨S_, .i32⟩
  | 33 => ⟨S1024, .i32⟩
  | 34 => ⟨S1024, .i32⟩
  | 35 => ⟨S1024, .i32⟩
  | 36 => ⟨S1024x1, .i32⟩
  | 37 => ⟨S1024x128, .f32⟩
  | 38 => ⟨S1024x128, .f32⟩
  | 39 => ⟨S1024, .f32⟩
  | 40 => ⟨S1024, .f32⟩
  | 41 => ⟨S_, .f32⟩
  | 42 => ⟨S_, .f32⟩
  | 43 => ⟨S_, .f32⟩
  | 44 => ⟨S_, .f32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S1024x1, .i32⟩
  | 53 => ⟨S1024x128, .f32⟩
  | 54 => ⟨S1024x128, .f32⟩
  | 55 => ⟨S_, .f32⟩
  | 56 => ⟨S1024, .f32⟩
  | 57 => ⟨S1024x1, .f32⟩
  | 58 => ⟨S100000x128, .f32⟩
  | 59 => ⟨S_, .f32⟩
  | 60 => ⟨S100000, .f32⟩
  | 61 => ⟨S1x100000, .f32⟩
  | 62 => ⟨S1024x100000, .f32⟩
  | 63 => ⟨S1024x100000, .f32⟩
  | 64 => ⟨S1024x100000, .f32⟩
  | 65 => ⟨S128x100000, .f32⟩
  | 66 => ⟨S1024x100000, .f32⟩
  | 67 => ⟨S_, .f32⟩
  | 68 => ⟨S1024x100000, .f32⟩
  | 69 => ⟨S1024x100000, .f32⟩
  | 70 => ⟨S1024x100000, .f32⟩
  | 71 => ⟨S_, .f32⟩
  | 72 => ⟨S1024x100000, .f32⟩
  | 73 => ⟨S1024x100000, .f32⟩
  | 74 => ⟨S1024x100000, .f32⟩
  | 75 => ⟨S1024x100000, .f32⟩
  | 76 => ⟨S1024x1, .f32⟩
  | 77 => ⟨S1024x1, .i32⟩
  | 78 => ⟨S1024, .f32⟩
  | 79 => ⟨S1024, .f32⟩
  | 80 => ⟨S1024, .i32⟩
  | 81 => ⟨S1024, .i1⟩
  | 82 => ⟨S1024, .f32⟩
  | 83 => ⟨S1024, .f32⟩
  | 84 => ⟨S1024, .f32⟩
  | 85 => ⟨S_, .f32⟩
  | 86 => ⟨S_, .f32⟩
  | 87 => ⟨S1024, .f32⟩
  | 88 => ⟨S1024, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_8 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_15 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_values : Ref sig .tc := ⟨.hbm, 131, rfl⟩
abbrev main_indices : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_18 : Ref sig .tc := ⟨.hbm, 140, rfl⟩
abbrev main_call0_v0 : Ref sig .tc := ⟨.hbm, 141, rfl⟩
abbrev main_call0_v1 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_c_21 : Ref sig .tc := ⟨.hbm, 148, rfl⟩
abbrev main_v108 : Ref sig .tc := ⟨.hbm, 149, rfl⟩
abbrev main_v109 : Ref sig .tc := ⟨.hbm, 150, rfl⟩
abbrev main_c_22 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_23 : Ref sig .tc := ⟨.hbm, 157, rfl⟩
abbrev main_v115 : Ref sig .tc := ⟨.hbm, 158, rfl⟩
abbrev main_v116 : Ref sig .tc := ⟨.hbm, 159, rfl⟩
abbrev main_c_24 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_25 : Ref sig .tc := ⟨.hbm, 169, rfl⟩
abbrev main_v125 : Ref sig .tc := ⟨.hbm, 170, rfl⟩
abbrev main_cst_26 : Ref sig .tc := ⟨.hbm, 171, rfl⟩
abbrev main_v126 : Ref sig .tc := ⟨.hbm, 172, rfl⟩
abbrev main_c_27 : Ref sig .tc := ⟨.hbm, 173, rfl⟩
abbrev main_v127 : Ref sig .tc := ⟨.hbm, 174, rfl⟩
abbrev main_v128 : Ref sig .tc := ⟨.hbm, 175, rfl⟩
abbrev main_c_28 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_29 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_30 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_31 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_32 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_values_33 : Ref sig .tc := ⟨.hbm, 204, rfl⟩
abbrev main_indices_34 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_35 : Ref sig .tc := ⟨.hbm, 213, rfl⟩
abbrev main_call1_v0 : Ref sig .tc := ⟨.hbm, 214, rfl⟩
abbrev main_call1_v1 : Ref sig .tc := ⟨.hbm, 215, rfl⟩
abbrev main_v159 : Ref sig .tc := ⟨.hbm, 216, rfl⟩
abbrev main_cst_36 : Ref sig .tc := ⟨.hbm, 217, rfl⟩
abbrev main_v160 : Ref sig .tc := ⟨.hbm, 218, rfl⟩
abbrev main_cst_37 : Ref sig .tc := ⟨.hbm, 219, rfl⟩
abbrev main_v161 : Ref sig .tc := ⟨.hbm, 220, rfl⟩
abbrev main_cst_38 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩

abbrev nD : Nat := 1
abbrev τ : Topo := Topo.v7x

variable {F : FTy → Type} [FloatOps F]
-- ==== Proof.IdealTile.lean ====
/- The SparseCore half of the kernel. Thirty-two tiles, two cores of sixteen; tile `j` of core `c` takes block
   `2 j + c` (32 entries) of the two index columns and gathers the rows they name from the two tables, four times, into
   its block of four result arrays. Here: what each tile is handed and hands back, with the values of the gathered rows;
   the run of one tile, at a symbolic core and tile; and the two obligations the launch asks of a tile kernel. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The launch's set-up -/

/-- The labels of the program with its pipeline. -/
abbrev ΛP : Labels := Pipeline.Sig Λ₀ (Fin 1) fun p => (pcfgs (F := F) p).Adm
/-- The SparseCore call of the program. -/
abbrev K : SparseCore.Cfg τ sig (ΛP (F := F)) 1 := sc (F := F)
/-- The call runs on 16 subcores of each core. -/
theorem nSub_zero : (K (F := F)).nSub 0 = 16 := rfl
/-- The call runs on 2 cores. -/
theorem nCore_zero : (K (F := F)).nCore 0 = 2 := rfl
/-- The definitions of the program with its pipeline. -/
abbrev D : Defs nD τ sig (Elt F) (ΛP (F := F)) := Pipeline.defs pcfgs defs₀
/-- No loop of the bodies needs a variant. -/
abbrev 𝒱₀ : Variants := Variants.none
/-- The same, with the pipeline. -/
abbrev 𝒱 : Variants := 𝒱₀.lift
/-- The variant of the tiles' bodies. -/
abbrev v₀ : 𝒱.V := Sum.inl none

/-- The call's configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
/-- The pipeline's rounds. -/
abbrev UP : Type := URounds (GSem nD τ sig) Unit
/-- The user part of the ghost state. -/
abbrev UU : Type := UH × (UP × Counters)

local notation "𝕄" => MT nD τ sig (HIx 1) (Elt F) ℕ UU ℕ

/-- Where the handshakes' rounds lie in it. -/
abbrev EH : Emb UH (MT nD τ sig (HIx 1) (Elt F) ℕ UU ℕ) := embL
/-- Where the pipeline's rounds lie in it. -/
abbrev EP : Emb UP (MT nD τ sig (HIx 1) (Elt F) ℕ UU ℕ) := (Emb.inl : Emb UP (UP × Counters)).trans embR

/-! ## The buffers of the call -/

/-- The first table's buffer. -/
abbrev xLoc (d : Dev nD) : Loc nD τ sig := (SparseCore.T d).loc main_arg0
/-- The second table's buffer. -/
abbrev yLoc (d : Dev nD) : Loc nD τ sig := (SparseCore.T d).loc main_arg1
/-- The first index column's buffer. -/
abbrev xiLoc (d : Dev nD) : Loc nD τ sig := (SparseCore.T d).loc main_v1
/-- The second index column's buffer. -/
abbrev yiLoc (d : Dev nD) : Loc nD τ sig := (SparseCore.T d).loc main_v3
/-- The buffer of the first result. -/
abbrev g0Loc (d : Dev nD) : Loc nD τ sig := (SparseCore.T d).loc main_v4_0
/-- The buffer of the second result. -/
abbrev g1Loc (d : Dev nD) : Loc nD τ sig := (SparseCore.T d).loc main_v4_1
/-- The buffer of the third result. -/
abbrev g2Loc (d : Dev nD) : Loc nD τ sig := (SparseCore.T d).loc main_v4_2
/-- The buffer of the fourth result. -/
abbrev g3Loc (d : Dev nD) : Loc nD τ sig := (SparseCore.T d).loc main_v4_3

local notation "xV" => (Memref.whole Cert.KernelIdeal.main_arg0_scv : Memref Cert.KernelIdeal.sig Kind.scVector Space.hbm Cert.KernelIdeal.S100000x128 EltTy.f32)
local notation "yV" => (Memref.whole Cert.KernelIdeal.main_arg1_scv : Memref Cert.KernelIdeal.sig Kind.scVector Space.hbm Cert.KernelIdeal.S100000x128 EltTy.f32)
local notation "xiV" => (Memref.whole Cert.KernelIdeal.main_v1_scv : Memref Cert.KernelIdeal.sig Kind.scVector Space.hbm Cert.KernelIdeal.S1024 EltTy.i32)
local notation "yiV" => (Memref.whole Cert.KernelIdeal.main_v3_scv : Memref Cert.KernelIdeal.sig Kind.scVector Space.hbm Cert.KernelIdeal.S1024 EltTy.i32)
local notation "g0V" => (Memref.whole Cert.KernelIdeal.main_v4_0_scv : Memref Cert.KernelIdeal.sig Kind.scVector Space.hbm Cert.KernelIdeal.S1024x128 EltTy.f32)
local notation "g1V" => (Memref.whole Cert.KernelIdeal.main_v4_1_scv : Memref Cert.KernelIdeal.sig Kind.scVector Space.hbm Cert.KernelIdeal.S1024x128 EltTy.f32)
local notation "g2V" => (Memref.whole Cert.KernelIdeal.main_v4_2_scv : Memref Cert.KernelIdeal.sig Kind.scVector Space.hbm Cert.KernelIdeal.S1024x128 EltTy.f32)
local notation "g3V" => (Memref.whole Cert.KernelIdeal.main_v4_3_scv : Memref Cert.KernelIdeal.sig Kind.scVector Space.hbm Cert.KernelIdeal.S1024x128 EltTy.f32)
local notation "lV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-- Row `n` of a table of 100000 rows, the last row for a number past the end. -/
def rowNo (n : ℕ) : Fin 100000 := ⟨min n 99999, by omega⟩

/-- Entry `n` of a column of 1024. -/
def ent (n : Fin 1024) : S1024.Idx := fun | 0 => n

/-- The row coordinate of an index of a gathered array. -/
def rowCo (j : S1024x128.Idx) : Fin 1024 := j 0

/-- The rows of table `t` the entries of `ix` name. -/
def rowsOf {α : Type} (t : S100000x128.Idx → α) (ix : S1024.Idx → BitVec 32) : S1024x128.Idx → α :=
  fun j => t (Shape.pair (d := ![100000, 128]) (rowNo (ix (ent (rowCo j))).toNat) (j 1))

/-! ## Blocks and shares -/

/-- 32 blocks divide an index column. -/
theorem div1 : 32 ∣ S1024.size 0 := ⟨32, rfl⟩
/-- 32 blocks divide a gathered array. -/
theorem div2 : 32 ∣ S1024x128.size 0 := ⟨32, rfl⟩
/-- Block `w` of an index column, and of a gathered array. -/
abbrev iSet (w : Fin 32) : Finset S1024.Idx := (Rect.part (s := S1024) (a₀ := 0) div1 w).set
/-- Block `w` of a gathered array. -/
abbrev gSet (w : Fin 32) : Finset S1024x128.Idx := (Rect.part (s := S1024x128) (a₀ := 0) div2 w).set

/-- Share `w` of `2 ^ n`: the binary tree of halves, followed down the digits of `w`. -/
def part : (n : ℕ) → PosShare TreeShare → ℕ → PosShare TreeShare
  | 0, q, _ => q
  | n + 1, q, w => part n (if w % 2 = 0 then q.left else q.right) (w / 2)

/-- Tile number `w`'s share of a table. -/
abbrev tq (w : Fin 32) : PosShare TreeShare := part 5 fullShare w.val

/-- The block of tile `i` of core `c`. -/
def blk (c : Fin 2) (i : Fin 16) : Fin 32 := ⟨i.val * 2 + c.val, by omega⟩

variable (m : (ℓ : Loc nD τ sig) → Buf (Elt F) ℓ)
variable (xi : (d : Dev nD) → Buf (Elt F) (xiLoc d)) (yi : (d : Dev nD) → Buf (Elt F) (yiLoc d))

/-- What tile block `w` is handed: its blocks of the index columns, its share of each table, and its blocks of the four
    results, as the launch left them. -/
def goP (d : Dev nD) (w : Fin 32) : sProp 𝕄 :=
  iprop((xiLoc d ↦[iSet w]{fullShare} xi d) ∗ (yiLoc d ↦[iSet w]{fullShare} yi d)
    ∗ (xLoc d ↦{tq w} m (xLoc d)) ∗ (yLoc d ↦{tq w} m (yLoc d))
    ∗ (g0Loc d ↦[gSet w]{fullShare} m (g0Loc d)) ∗ (g1Loc d ↦[gSet w]{fullShare} m (g1Loc d))
    ∗ (g2Loc d ↦[gSet w]{fullShare} m (g2Loc d)) ∗ (g3Loc d ↦[gSet w]{fullShare} m (g3Loc d)))

/-- What it hands back: the same, the results holding the gathered rows. -/
def tdP (d : Dev nD) (w : Fin 32) : sProp 𝕄 :=
  iprop((xiLoc d ↦[iSet w]{fullShare} xi d) ∗ (yiLoc d ↦[iSet w]{fullShare} yi d)
    ∗ (xLoc d ↦{tq w} m (xLoc d)) ∗ (yLoc d ↦{tq w} m (yLoc d))
    ∗ (g0Loc d ↦[gSet w]{fullShare} rowsOf (m (xLoc d)) (xi d)) ∗ (g1Loc d ↦[gSet w]{fullShare} rowsOf (m (yLoc d)) (yi d))
    ∗ (g2Loc d ↦[gSet w]{fullShare} rowsOf (m (yLoc d)) (xi d)) ∗ (g3Loc d ↦[gSet w]{fullShare} rowsOf (m (xLoc d)) (yi d)))

/-- What a tile is handed can be passed through a handshake. -/
instance goP_storable (d : Dev nD) (w : Fin 32) : BI.Storable (upEmb : UEmb _ 𝕄) (goP m xi yi d w) := by unfold goP; infer_instance
/-- What a tile hands back can be passed through a handshake. -/
instance tdP_storable (d : Dev nD) (w : Fin 32) : BI.Storable (upEmb : UEmb _ 𝕄) (tdP m xi yi d w) := by unfold tdP; infer_instance

/-- The handshakes of the one call: a core takes what its sixteen tiles take and brings back what they bring back. -/
def P : (K (F := F)).Pay (nD := nD) (Val := Elt F) (Name := ℕ) (U := UU) where
  st := fun q d c => match q with | 0 => bigSep Finset.univ fun i : Fin 16 => goP m xi yi d (blk (Fin.cast nCore_zero c) i)
  dn := fun q d c => match q with | 0 => bigSep Finset.univ fun i : Fin 16 => tdP m xi yi d (blk (Fin.cast nCore_zero c) i)
  go := fun q d c i => match q with | 0 => goP m xi yi d (blk (Fin.cast nCore_zero c) (Fin.cast nSub_zero i))
  td := fun q d c i => match q with | 0 => tdP m xi yi d (blk (Fin.cast nCore_zero c) (Fin.cast nSub_zero i))
  x := fun _ _ => iprop(emp)

/-- All that the call's handshakes carry can be passed through them. -/
instance P_storable : (P m xi yi).IsStorable where
  st q d c := match q with
    | 0 => (inferInstance : BI.Storable (upEmb : UEmb _ 𝕄) (bigSep Finset.univ fun i : Fin 16 => goP m xi yi d (blk (Fin.cast nCore_zero c) i)))
  dn q d c := match q with
    | 0 => (inferInstance : BI.Storable (upEmb : UEmb _ 𝕄) (bigSep Finset.univ fun i : Fin 16 => tdP m xi yi d (blk (Fin.cast nCore_zero c) i)))
  go q d c i := match q with | 0 => goP_storable m xi yi d _
  td q d c i := match q with | 0 => tdP_storable m xi yi d _

/-- Every entry of the two index columns names a row of the tables. -/
def InRange : Prop := ∀ (d : Dev nD) (j : S1024.Idx), (xi d j).toNat < 100000 ∧ (yi d j).toNat < 100000

/-! ## One tile -/

section Tile

variable (d : Dev nD) (L : grid0.Coords)

/-- The tile's core. -/
abbrev cV : Fin τ.nSC := (L 0).castLE hcore0
/-- The tile's subcore. -/
abbrev jV : Fin τ.nSub := (L 1).castLE hsub0
/-- The first coordinate runs over 2 cores. -/
theorem bound_zero : grid0.bound 0 = 2 := rfl
/-- The second coordinate runs over 16 subcores. -/
theorem bound_one : grid0.bound 1 = 16 := rfl
/-- The tile's block. -/
abbrev wL : Fin 32 := blk (Fin.cast bound_zero (L 0)) (Fin.cast bound_one (L 1))

/-- A tile's part of an index column begins at 32 times its block's number. -/
theorem off1_val : ∀ L : grid0.Coords, k0_off1 L 0 = ((L 1).val * 2 + (L 0).val) * 32 := by decide +kernel
/-- A tile's part of a gathered array begins at the row 32 times its block's number. -/
theorem off2_val0 : ∀ L : grid0.Coords, k0_off2 L 0 = ((L 1).val * 2 + (L 0).val) * 32 := by decide +kernel
/-- A tile's part of a gathered array begins at column 0. -/
theorem off2_val1 : ∀ L : grid0.Coords, k0_off2 L 1 = 0 := by decide +kernel

/-- The tile's part of an index column. -/
abbrev iRect : Rect S1024 := Rect.unit (s := S1024) (k0_off1 L) S32.size (k0_off1_inb L)
/-- The tile's part of a gathered array. -/
abbrev gRect : Rect S1024x128 := Rect.unit (s := S1024x128) (k0_off2 L) S32x128.size (k0_off2_inb L)

/-- That part of an index column is the tile's block. -/
theorem iRect_eq : iRect L = Rect.part (s := S1024) (a₀ := 0) div1 (wL L) := by
  unfold iRect Rect.part Rect.block
  congr 1 <;> funext a
  · match a with
    | 0 => rw [off1_val]; simp [Shape.partIx, Shape.partSize, blk]; rfl
  · match a with
    | 0 => simp [Shape.partSize]
/-- That part of a gathered array is the tile's block. -/
theorem gRect_eq : gRect L = Rect.part (s := S1024x128) (a₀ := 0) div2 (wL L) := by
  unfold gRect Rect.part Rect.block
  congr 1 <;> funext a
  · match a with
    | 0 => rw [off2_val0]; simp [Shape.partIx, Shape.partSize, blk]; rfl
    | 1 => rw [off2_val1]; simp [Shape.partIx, Shape.partSize]
  · match a with
    | 0 => simp [Shape.partSize]
    | 1 => simp [Shape.partSize]

/-- The tile's part of the first index column, as its body slices it. -/
abbrev xiK : Memref sig .scVector .hbm S32 .i32 := (xiV).slice (iRect L) (fun _ => rfl)
/-- The tile's part of the second index column, as its body slices it. -/
abbrev yiK : Memref sig .scVector .hbm S32 .i32 := (yiV).slice (iRect L) (fun _ => rfl)
/-- The tile's part of the first result, as its body slices it. -/
abbrev g0K : Memref sig .scVector .hbm S32x128 .f32 := (g0V).slice (gRect L) (fun _ => rfl)
/-- The tile's part of the second result, as its body slices it. -/
abbrev g1K : Memref sig .scVector .hbm S32x128 .f32 := (g1V).slice (gRect L) (fun _ => rfl)
/-- The tile's part of the third result, as its body slices it. -/
abbrev g2K : Memref sig .scVector .hbm S32x128 .f32 := (g2V).slice (gRect L) (fun _ => rfl)
/-- The tile's part of the fourth result, as its body slices it. -/
abbrev g3K : Memref sig .scVector .hbm S32x128 .f32 := (g3V).slice (gRect L) (fun _ => rfl)

/-- The body's slice of the first index column is the tile's block. -/
theorem set_xiK : (xiK L).view.set = iSet (wL L) := by
  show ((View.whole (main_v1_scv : Ref sig .scVector)).slice (iRect L)).set = _
  rw [View.set_slice, iRect_eq]; exact Finset.map_refl
/-- The body's slice of the second index column is the tile's block. -/
theorem set_yiK : (yiK L).view.set = iSet (wL L) := by
  show ((View.whole (main_v3_scv : Ref sig .scVector)).slice (iRect L)).set = _
  rw [View.set_slice, iRect_eq]; exact Finset.map_refl
/-- The body's slice of the first result is the tile's block. -/
theorem set_g0K : (g0K L).view.set = gSet (wL L) := by
  show ((View.whole (main_v4_0_scv : Ref sig .scVector)).slice (gRect L)).set = _
  rw [View.set_slice, gRect_eq]; exact Finset.map_refl
/-- The body's slice of the second result is the tile's block. -/
theorem set_g1K : (g1K L).view.set = gSet (wL L) := by
  show ((View.whole (main_v4_1_scv : Ref sig .scVector)).slice (gRect L)).set = _
  rw [View.set_slice, gRect_eq]; exact Finset.map_refl
/-- The body's slice of the third result is the tile's block. -/
theorem set_g2K : (g2K L).view.set = gSet (wL L) := by
  show ((View.whole (main_v4_2_scv : Ref sig .scVector)).slice (gRect L)).set = _
  rw [View.set_slice, gRect_eq]; exact Finset.map_refl
/-- The body's slice of the fourth result is the tile's block. -/
theorem set_g3K : (g3K L).view.set = gSet (wL L) := by
  show ((View.whole (main_v4_3_scv : Ref sig .scVector)).slice (gRect L)).set = _
  rw [View.set_slice, gRect_eq]; exact Finset.map_refl

local notation "tV" => V d (cV L) (jV L)

/-- Owning the body's slice of the first index column is owning the tile's block. -/
theorem pts_xi (f : Buf (Elt F) (xiLoc d)) :
    ((xiK L).view.loc tV ↦[(xiK L).view.set]{fullShare} f : sProp 𝕄) = xiLoc d ↦[iSet (wL L)]{fullShare} f := by rw [set_xiK]
/-- Owning the body's slice of the second index column is owning the tile's block. -/
theorem pts_yi (f : Buf (Elt F) (yiLoc d)) :
    ((yiK L).view.loc tV ↦[(yiK L).view.set]{fullShare} f : sProp 𝕄) = yiLoc d ↦[iSet (wL L)]{fullShare} f := by rw [set_yiK]
/-- Owning the body's slice of the first result is owning the tile's block. -/
theorem pts_g0 (f : Buf (Elt F) (g0Loc d)) :
    ((g0K L).view.loc tV ↦[(g0K L).view.set]{fullShare} f : sProp 𝕄) = g0Loc d ↦[gSet (wL L)]{fullShare} f := by rw [set_g0K]
/-- Owning the body's slice of the second result is owning the tile's block. -/
theorem pts_g1 (f : Buf (Elt F) (g1Loc d)) :
    ((g1K L).view.loc tV ↦[(g1K L).view.set]{fullShare} f : sProp 𝕄) = g1Loc d ↦[gSet (wL L)]{fullShare} f := by rw [set_g1K]
/-- Owning the body's slice of the third result is owning the tile's block. -/
theorem pts_g2 (f : Buf (Elt F) (g2Loc d)) :
    ((g2K L).view.loc tV ↦[(g2K L).view.set]{fullShare} f : sProp 𝕄) = g2Loc d ↦[gSet (wL L)]{fullShare} f := by rw [set_g2K]
/-- Owning the body's slice of the fourth result is owning the tile's block. -/
theorem pts_g3 (f : Buf (Elt F) (g3Loc d)) :
    ((g3K L).view.loc tV ↦[(g3K L).view.set]{fullShare} f : sProp 𝕄) = g3Loc d ↦[gSet (wL L)]{fullShare} f := by rw [set_g3K]
/-- Owning the first table through the body's view is owning its buffer. -/
theorem pts_x (q : PosShare TreeShare) (f : Buf (Elt F) (xLoc d)) :
    ((xV).view.loc tV ↦{q} f : sProp 𝕄) = xLoc d ↦{q} f := rfl
/-- Owning the second table through the body's view is owning its buffer. -/
theorem pts_y (q : PosShare TreeShare) (f : Buf (Elt F) (yLoc d)) :
    ((yV).view.loc tV ↦{q} f : sProp 𝕄) = yLoc d ↦{q} f := rfl
/-- Owning the index list through the body's view is owning its buffer. -/
theorem pts_l (f : Buf (Elt F) ((tV).loc cc0_scratch0)) :
    ((lV).view.loc tV ↦{fullShare} f : sProp 𝕄) = (tV).loc cc0_scratch0 ↦{fullShare} f := rfl
/-- Owning the row buffer through the body's view is owning its buffer. -/
theorem pts_r (f : Buf (Elt F) ((tV).loc cc0_scratch1)) :
    ((rV).view.loc tV ↦{fullShare} f : sProp 𝕄) = (tV).loc cc0_scratch1 ↦{fullShare} f := rfl

/-- The seven DMA semaphores of a tile: the gathers', and one for each copy. -/
abbrev semK (k : DmaSem sig) : GSem nD τ sig := (tV, .dma k)

/-- A block written whole with `w` holds `G` wherever the block lies, if `w` is `G` read through the block. -/
theorem landed {κ : Kind} {sp : Space} {s : Shape} {e : EltTy} (v : View sig κ sp s e) (f G : v.ty.Contents (Elt F)) (w : s.Idx → Elt F e)
    (h : ∀ x, w x = v.read (Elt F) G x) : ∀ i ∈ v.set, v.writes (Elt F) f [⟨Rect.whole s, w⟩] i = G i := by
  intro i hi
  obtain ⟨x, -, rfl⟩ := Finset.mem_map.mp hi
  have h1 := View.read_writes_cons_emb v f (Rect.whole s) w [] x
  rw [h x, show (Rect.whole s).emb x = x from Rect.emb_whole_apply s x, View.read_apply, View.read_apply] at h1
  exact (cast_inj _).mp h1

/-- A tile's own semaphores at zero are its seven DMA semaphores at zero and the rest. -/
theorem ownSems0_V :
    (ownSems0 tV : sProp 𝕄)
      = iprop(semVal (semK d L cc0_scratch2.sem) 0 ∗ semVal (semK d L cc0_scoped0.sem) 0 ∗ semVal (semK d L cc0_scoped1.sem) 0
          ∗ semVal (semK d L cc0_scoped2.sem) 0 ∗ semVal (semK d L cc0_scoped3.sem) 0 ∗ semVal (semK d L cc0_scoped4.sem) 0
          ∗ semVal (semK d L cc0_scoped5.sem) 0
          ∗ bigSep ((((((((ownCells tV).erase (semK d L cc0_scratch2.sem)).erase (semK d L cc0_scoped0.sem)).erase (semK d L cc0_scoped1.sem)).erase
              (semK d L cc0_scoped2.sem)).erase (semK d L cc0_scoped3.sem)).erase (semK d L cc0_scoped4.sem)).erase (semK d L cc0_scoped5.sem))
              fun g => semVal g 0) := by
  have hm : ∀ k : DmaSem sig, (SemLoc.dma k : SemLoc sig).isScoped .scVector = true → semK d L k ∈ ownCells (tV) :=
    fun k h => mem_ownCells.mpr ⟨rfl, h⟩
  have hne : ∀ k k' : DmaSem sig, k ≠ k' → semK d L k ≠ semK d L k' := fun k k' h e => h (SemLoc.dma.inj (Prod.mk.inj e).2)
  unfold SparseCore.Cfg.ownSems0
  rw [SparseCore.bigSep_erase' (hm cc0_scratch2.sem (by decide)),
    SparseCore.bigSep_erase' (i := semK d L cc0_scoped0.sem) (by
      simp only [Finset.mem_erase]; exact ⟨hne _ _ (by decide), hm _ (by decide)⟩),
    SparseCore.bigSep_erase' (i := semK d L cc0_scoped1.sem) (by
      simp only [Finset.mem_erase]; exact ⟨hne _ _ (by decide), hne _ _ (by decide), hm _ (by decide)⟩),
    SparseCore.bigSep_erase' (i := semK d L cc0_scoped2.sem) (by
      simp only [Finset.mem_erase]; exact ⟨hne _ _ (by decide), hne _ _ (by decide), hne _ _ (by decide), hm _ (by decide)⟩),
    SparseCore.bigSep_erase' (i := semK d L cc0_scoped3.sem) (by
      simp only [Finset.mem_erase]; exact ⟨hne _ _ (by decide), hne _ _ (by decide), hne _ _ (by decide), hne _ _ (by decide), hm _ (by decide)⟩),
    SparseCore.bigSep_erase' (i := semK d L cc0_scoped4.sem) (by
      simp only [Finset.mem_erase]
      exact ⟨hne _ _ (by decide), hne _ _ (by decide), hne _ _ (by decide), hne _ _ (by decide), hne _ _ (by decide), hm _ (by decide)⟩),
    SparseCore.bigSep_erase' (i := semK d L cc0_scoped5.sem) (by
      simp only [Finset.mem_erase]
      exact ⟨hne _ _ (by decide), hne _ _ (by decide), hne _ _ (by decide), hne _ _ (by decide), hne _ _ (by decide), hne _ _ (by decide), hm _ (by decide)⟩)]

/-- The index list and the row buffer are among the tile's own buffers. -/
theorem ownBufs_V :
    (ownBufs tV : sProp 𝕄)
      = iprop((∃ f, (tV).loc cc0_scratch0 ↦{fullShare} f) ∗ (∃ f, (tV).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The list a tile fetched from the first index column names rows of the tables. -/
theorem inb_xi (hpre : InRange xi yi) (f : Buf (Elt F) ((tV).loc cc0_scratch0)) (pay : S32.Idx → Elt F .i32)
    (hpay : pay = (xiK L).view.read (Elt F) (xi d)) :
    ∀ x, ((lV).view.read (Elt F) (View.write (Elt F) (lV).view f pay Finset.univ) x).toNat < S100000x128.size gathers_S100000x128_S32x128.axis := by
  subst hpay; intro x
  rw [View.write_whole_univ]
  simp only [Memref.view_whole, View.read_whole]
  rw [show ∀ j, (xiK L).view.read (Elt F) (xi d) j = xi d ((xiK L).view.emb j) from fun j => (View.read_apply _ _).trans (cast_eq _ _)]
  exact (hpre d _).1
/-- The list a tile fetched from the second index column names rows of the tables. -/
theorem inb_yi (hpre : InRange xi yi) (f : Buf (Elt F) ((tV).loc cc0_scratch0)) (pay : S32.Idx → Elt F .i32)
    (hpay : pay = (yiK L).view.read (Elt F) (yi d)) :
    ∀ x, ((lV).view.read (Elt F) (View.write (Elt F) (lV).view f pay Finset.univ) x).toNat < S100000x128.size gathers_S100000x128_S32x128.axis := by
  subst hpay; intro x
  rw [View.write_whole_univ]
  simp only [Memref.view_whole, View.read_whole]
  rw [show ∀ j, (yiK L).view.read (Elt F) (yi d) j = yi d ((yiK L).view.emb j) from fun j => (View.read_apply _ _).trans (cast_eq _ _)]
  exact (hpre d _).2

/-- The list fetched from the first index column holds its block of the column. -/
theorem list_xi (f : Buf (Elt F) ((tV).loc cc0_scratch0)) (k : S32.Idx) :
    (lV).view.read (Elt F) (View.write (Elt F) (lV).view f ((xiK L).view.read (Elt F) (xi d)) Finset.univ) k = xi d ((iRect L).emb k) := by
  rw [View.write_whole_univ]
  simp only [Memref.view_whole, View.read_whole]
  exact (View.read_apply _ _).trans (cast_eq _ _)
/-- The list fetched from the second index column holds its block of the column. -/
theorem list_yi (f : Buf (Elt F) ((tV).loc cc0_scratch0)) (k : S32.Idx) :
    (lV).view.read (Elt F) (View.write (Elt F) (lV).view f ((yiK L).view.read (Elt F) (yi d)) Finset.univ) k = yi d ((iRect L).emb k) := by
  rw [View.write_whole_univ]
  simp only [Memref.view_whole, View.read_whole]
  exact (View.read_apply _ _).trans (cast_eq _ _)

/-- A table read whole through the slice that is all of it. -/
theorem all_emb (j : S100000x128.Idx) :
    (Rect.unit (s := S100000x128) ![0, 0] S100000x128.size inb_S100000x128_S100000x128_0_0).emb j = j :=
  funext fun a => Fin.ext (by
    match a with
    | 0 => show 0 + 1 * (j 0).val = (j 0).val; omega
    | 1 => show 0 + 1 * (j 1).val = (j 1).val; omega)
/-- The first table read whole is the table. -/
theorem read_x (t : Buf (Elt F) (xLoc d)) :
    ((xV).slice (Rect.unit (s := S100000x128) ![0, 0] S100000x128.size inb_S100000x128_S100000x128_0_0) (fun _ => rfl)).view.read (Elt F) t = t :=
  funext fun j => (View.read_apply _ _).trans ((cast_eq _ _).trans (congrArg t (all_emb j)))
/-- The second table read whole is the table. -/
theorem read_y (t : Buf (Elt F) (yLoc d)) :
    ((yV).slice (Rect.unit (s := S100000x128) ![0, 0] S100000x128.size inb_S100000x128_S100000x128_0_0) (fun _ => rfl)).view.read (Elt F) t = t :=
  funext fun j => (View.read_apply _ _).trans ((cast_eq _ _).trans (congrArg t (all_emb j)))

/-- What a gather over the tile's list delivers: the rows the tile's block of the column names. -/
theorem gathered (t : S100000x128.Idx → Elt F .f32) (ix : S1024.Idx → BitVec 32) (lst : S32.Idx → Elt F .i32)
    (hl : ∀ k : S32.Idx, lst k = ix ((iRect L).emb k))
    (hn : S32.numel = S32x128.size gathers_S100000x128_S32x128.axis')
    (hin : ∀ x, (lst x).toNat < S100000x128.size gathers_S100000x128_S32x128.axis) (x : S32x128.Idx) :
    SparseCore.gatherPayload gathers_S100000x128_S32x128 t (SparseCore.rows (F := F) (si := S32) lst hn hin) x = rowsOf t ix ((gRect L).emb x) := by
  unfold SparseCore.gatherPayload rowsOf
  refine congrArg t (funext fun b => Fin.ext ?_)
  have hk : ∀ k : Fin S32.numel, ((S32.rowMajor.symm k) 0).val = k.val := fun k => by
    have h := Shape.rowMajor_val_one (S32.rowMajor.symm k)
    rw [Equiv.apply_symm_apply] at h
    exact h.symm
  match b with
  | 0 =>
    refine (congrArg Fin.val (Shape.Gathers.idx_axis gathers_S100000x128_S32x128 _ x)).trans ?_
    show (lst (S32.rowMajor.symm ((x 0).cast hn.symm))).toNat = min (ix (ent (rowCo ((gRect L).emb x)))).toNat 99999
    have e : lst (S32.rowMajor.symm ((x 0).cast hn.symm)) = ix (ent (rowCo ((gRect L).emb x))) := by
      rw [hl]
      refine congrArg ix (funext fun a => ?_)
      match a with
      | 0 =>
        apply Fin.ext
        show k0_off1 L 0 + 1 * ((S32.rowMajor.symm ((x 0).cast hn.symm)) 0).val = k0_off2 L 0 + 1 * (x 0).val
        rw [hk, off1_val, off2_val0]; rfl
    have hlt := hin (S32.rowMajor.symm ((x 0).cast hn.symm))
    rw [e] at hlt ⊢
    have : (ix (ent (rowCo ((gRect L).emb x)))).toNat < 100000 := hlt
    omega
  | 1 =>
    refine (Shape.Gathers.idx_of_ne gathers_S100000x128_S32x128 _ x 1 (by decide)).trans ?_
    show (x 1).val = k0_off2 L 1 + 1 * (x 1).val
    rw [off2_val1]; omega

set_option maxHeartbeats 4000000 in
/-- One tile's run: from its blocks, shares and scratch to the same with its blocks of the four results holding the
    gathered rows. -/
theorem tile_body (hF : (K (F := F)).Facts) (hpre : InRange xi yi) (O : CellTallies nD τ sig (HIx 1)) (W : Waits sig (HIx 1)) (hO : ∀ g, O g none = 0) :
    iprop(levAts (K (F := F)).L (K (F := F)).lev ∗ emp ∗ goP m xi yi d (wL L)
        ∗ scopedBufs tV ∗ scopedSems0 tV ∗ owes tV O W)
      ⊢ wp frame (wpE (defs₀ (F := F)) 𝒱₀ tV none) Set.univ
          (cc0__sc_gather_body L xV (Memref.isWhole_whole _) yV (Memref.isWhole_whole _) xiV (Memref.isWhole_whole _) yiV (Memref.isWhole_whole _)
            g0V (Memref.isWhole_whole _) g1V (Memref.isWhole_whole _) g2V (Memref.isWhole_whole _) g3V (Memref.isWhole_whole _)
            lV (Memref.isWhole_whole _) rV (Memref.isWhole_whole _) cc0_scratch2 cc0_scoped0 cc0_scoped1 cc0_scoped2 cc0_scoped3 cc0_scoped4 cc0_scoped5)
          fun _ => iprop(tdP m xi yi d (wL L) ∗ scopedBufs tV ∗ scopedSems0 tV
            ∗ ∃ W', ⌜∀ p ∈ W', p ∈ W ∨ p.2 = none⌝ ∗ owes tV O W') := by
  simp only [cc0__sc_gather_body_eq_skeleton]; unfold cc0__sc_gather_body_skel
  simp only [k0_part1_eq_skeleton]; unfold k0_part1_skel
  unfold goP
  rw [(K (F := F)).scopedBufs_V hF d (cV L) (jV L), SparseCore.Cfg.scopedSems0_V (Val := Elt F) d (cV L) (jV L), ownSems0_V, ownBufs_V]
  iintro ⟨#Hlv, -, ⟨Hxi, Hyi, Hx, Hy, H0, H1, H2, H3⟩, ⟨⟨%fl, Hl⟩, ⟨%fr, Hr⟩, Hbufs⟩, ⟨Hs, Hs0, Hs1, Hs2, Hs3, Hs4, Hs5, Hsems⟩, HO⟩
  ihave Hmw := (show levAts (K (F := F)).L (K (F := F)).lev ⊢ Transfers.MayWaits tV (default : HIx 1) O from
    (K (F := F)).mayWaits_none (thr := tV) hO) $$ Hlv
  ihave Hxi' := (Entails.of_eq (pts_xi (F := F) d L _).symm) $$ Hxi
  ihave Hyi' := (Entails.of_eq (pts_yi (F := F) d L _).symm) $$ Hyi
  ihave Hx' := (Entails.of_eq (pts_x (F := F) d L _ _).symm) $$ Hx
  ihave Hy' := (Entails.of_eq (pts_y (F := F) d L _ _).symm) $$ Hy
  ihave H0' := (Entails.of_eq (pts_g0 (F := F) d L _).symm) $$ H0
  ihave H1' := (Entails.of_eq (pts_g1 (F := F) d L _).symm) $$ H1
  ihave H2' := (Entails.of_eq (pts_g2 (F := F) d L _).symm) $$ H2
  ihave H3' := (Entails.of_eq (pts_g3 (F := F) d L _).symm) $$ H3
  ihave Hl' := (Entails.of_eq (pts_l (F := F) d L _).symm) $$ Hl
  ihave Hr' := (Entails.of_eq (pts_r (F := F) d L _).symm) $$ Hr
  sl_exec
  have hin1 := inb_xi xi yi d L hpre fl (tile_body.sl.dma0 xi d L) rfl
  sl_exec
  have hin2 := inb_yi xi yi d L hpre (View.write (Elt F) (Memref.whole cc0_scratch0).view fl (tile_body.sl.dma0 xi d L) Finset.univ)
    (tile_body.sl.dma0_3 yi d L) rfl
  sl_exec
  have e0 : ∀ x, tile_body.sl.dma0_1 m xi d L fl fr hin1 x = (g0K L).view.read (Elt F) (rowsOf (m (xLoc d)) (xi d)) x := by
    intro x
    unfold tile_body.sl.dma0_1 tile_body.sl.gather0 tile_body.sl.dma0
    refine (View.read_writes_cons_hit _ _ (Rect.whole _) _ _ x x (Rect.emb_whole_apply S32x128 x)).trans ?_
    refine (congrArg (fun t => SparseCore.gatherPayload gathers_S100000x128_S32x128 t _ x) (read_x d _)).trans ?_
    exact (gathered L _ (xi d) _ (list_xi xi d L fl) _ _ x).trans ((View.read_apply _ _).trans (cast_eq _ _)).symm
  have e2 : ∀ x, tile_body.sl.dma0_2 m xi d L fl fr hin1 x = (g2K L).view.read (Elt F) (rowsOf (m (yLoc d)) (xi d)) x := by
    intro x
    unfold tile_body.sl.dma0_2 tile_body.sl.gather2 tile_body.sl.dma0
    refine (View.read_writes_cons_hit _ _ (Rect.whole _) _ _ x x (Rect.emb_whole_apply S32x128 x)).trans ?_
    refine (congrArg (fun t => SparseCore.gatherPayload gathers_S100000x128_S32x128 t _ x) (read_y d _)).trans ?_
    exact (gathered L _ (xi d) _ (list_xi xi d L fl) _ _ x).trans ((View.read_apply _ _).trans (cast_eq _ _)).symm
  have e3 : ∀ x, tile_body.sl.dma0_4 m xi yi d L fl fr hin1 hin2 x = (g1K L).view.read (Elt F) (rowsOf (m (yLoc d)) (yi d)) x := by
    intro x
    unfold tile_body.sl.dma0_4 tile_body.sl.gather0_1 tile_body.sl.dma0_3
    refine (View.read_writes_cons_hit _ _ (Rect.whole _) _ _ x x (Rect.emb_whole_apply S32x128 x)).trans ?_
    refine (congrArg (fun t => SparseCore.gatherPayload gathers_S100000x128_S32x128 t _ x) (read_y d _)).trans ?_
    exact (gathered L _ (yi d) _ (list_yi yi d L _) _ _ x).trans ((View.read_apply _ _).trans (cast_eq _ _)).symm
  have e4 : ∀ x, tile_body.sl.dma0_5 m xi yi d L fl fr hin1 hin2 x = (g3K L).view.read (Elt F) (rowsOf (m (xLoc d)) (yi d)) x := by
    intro x
    unfold tile_body.sl.dma0_5 tile_body.sl.gather2_1 tile_body.sl.dma0_3
    refine (View.read_writes_cons_hit _ _ (Rect.whole _) _ _ x x (Rect.emb_whole_apply S32x128 x)).trans ?_
    refine (congrArg (fun t => SparseCore.gatherPayload gathers_S100000x128_S32x128 t _ x) (read_x d _)).trans ?_
    exact (gathered L _ (yi d) _ (list_yi yi d L _) _ _ x).trans ((View.read_apply _ _).trans (cast_eq _ _)).symm
  ihave H0 := (Entails.of_eq ((pointsTo_congr (landed (g0K L).view (m (g0Loc d)) (rowsOf (m (xLoc d)) (xi d)) _ e0)).trans (pts_g0 (F := F) d L _))) $$ H0'
  ihave H2 := (Entails.of_eq ((pointsTo_congr (landed (g2K L).view (m (g2Loc d)) (rowsOf (m (yLoc d)) (xi d)) _ e2)).trans (pts_g2 (F := F) d L _))) $$ H2'
  ihave H1 := (Entails.of_eq ((pointsTo_congr (landed (g1K L).view (m (g1Loc d)) (rowsOf (m (yLoc d)) (yi d)) _ e3)).trans (pts_g1 (F := F) d L _))) $$ H1'
  ihave H3 := (Entails.of_eq ((pointsTo_congr (landed (g3K L).view (m (g3Loc d)) (rowsOf (m (xLoc d)) (yi d)) _ e4)).trans (pts_g3 (F := F) d L _))) $$ H3'
  sl_step
  unfold tdP
  isplitl [Hxi' Hyi' Hx' Hy' H0 H1 H2 H3]
  · isplitl [Hxi']; · iapply (Entails.of_eq (pts_xi (F := F) d L _)); iexact Hxi'
    isplitl [Hyi']; · iapply (Entails.of_eq (pts_yi (F := F) d L _)); iexact Hyi'
    isplitl [Hx']; · iexact Hx'
    isplitl [Hy']; · iexact Hy'
    isplitl [H0]; · iexact H0
    isplitl [H1]; · iexact H1
    isplitl [H2]; · iexact H2
    iexact H3
  isplitl [Hl' Hr' Hbufs]
  · isplitl [Hl']; · iexists _; iexact Hl'
    isplitl [Hr']; · iexists _; iexact Hr'
    iexact Hbufs
  isplitl [Hs Hs0 Hs1 Hs2 Hs3 Hs4 Hs5 Hsems]
  · isplitl [Hs]; · iexact Hs
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  swap; · iexact HO
  ipureintro; intro p hp
  simp only [Finset.mem_insert] at hp
  rcases hp with hp | hp | hp | hp | hp | hp | hp | hp | hp | hp | hp <;> first | exact .inl hp | exact .inr (hp ▸ rfl)

/-! ## The obligations of the launch -/

/-- The coordinates of a subcore of a core. -/
def coordsV (c : Fin (grid0.bound 0)) (s : Fin (grid0.bound 1)) : grid0.Coords :=
  fun | 0 => c | 1 => s | ⟨_ + 2, h⟩ => absurd h (Nat.not_lt.2 (Nat.le_add_left _ _))

/-- A tile runs the gather's body at its own coordinates. -/
theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) yV (Memref.isWhole_whole _) xiV (Memref.isWhole_whole _) yiV (Memref.isWhole_whole _)
          g0V (Memref.isWhole_whole _) g1V (Memref.isWhole_whole _) g2V (Memref.isWhole_whole _) g3V (Memref.isWhole_whole _)
          lV (Memref.isWhole_whole _) rV (Memref.isWhole_whole _) cc0_scratch2 cc0_scoped0 cc0_scoped1 cc0_scoped2 cc0_scoped3 cc0_scoped4 cc0_scoped5)
          ⟨⟩ c s := rfl

/-- Waits recorded for no call are among those a tile may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call, from what it is handed to what it hands back. -/
theorem tileObl (hF : (K (F := F)).Facts) (hpre : InRange xi yi) : (K (F := F)).TileObl (D (F := F)) 𝒱 (P m xi yi) v₀ 0 := by
  intro d c i O W hO _ _
  simp only [show (P m xi yi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m xi yi d (coordsV ⟨_, hci.1⟩ ⟨_, hci.2⟩) hF hpre O W hO).trans (wp_mono frame _ _ fun _ => obl_post)

end Tile

/-- A core's share of the call is its sixteen tiles', going and coming back. -/
theorem vecSplit : (K (F := F)).VecSplit' (P m xi yi) 0 := by
  intro d c
  show (bigSep Finset.univ fun i : Fin 16 => goP m xi yi d (blk (Fin.cast nCore_zero c) i)) ⊢ |={Set.univ}=> iprop(
      (bigSep Finset.univ fun i : Fin ((K (F := F)).nSub 0) => goP m xi yi d (blk (Fin.cast nCore_zero c) (Fin.cast nSub_zero i)))
      ∗ ((bigSep Finset.univ fun i : Fin ((K (F := F)).nSub 0) => tdP m xi yi d (blk (Fin.cast nCore_zero c) (Fin.cast nSub_zero i)))
          -∗ bigSep Finset.univ fun i : Fin 16 => tdP m xi yi d (blk (Fin.cast nCore_zero c) i)))
  iintro H; imodintro
  isplitl [H]; · iexact H
  iintro H; iexact H

end Cert.Proof.IdealRun

end
-- ==== Proof.IdealBody.lean ====
/- The TensorCore half of the kernel, one grid point at a time. Here: the values its twelve scratch buffers hold as a
   function of the blocks read so far, and the run of the body at a point, in its three cases (first point, last point,
   any other), from those values to the next ones. -/
module

public import proofs.«01_k».proof.Proof.IdealTile
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.Value
public import Idealize.ShloMosaic.Lib.Tactic

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Values -/

/-- The operands that stay put over the grid: the two networks' weights and the four arrays of gathered rows. -/
structure Ops (F : FTy → Type) where
  w1 : Vec F S128x100 .f32
  w2 : Vec F S100x128 .f32
  u1 : Vec F S128x100 .f32
  u2 : Vec F S100x128 .f32
  xg : Vec F S1024x128 .f32
  yg : Vec F S1024x128 .f32
  tx : Vec F S1024x128 .f32
  ty : Vec F S1024x128 .f32

/-- What the twelve scratch buffers hold: the queries times minus two, the queries' squared norms, the distance to the
    own target (less the query's norm), the running minima, the two cycle sums and the two means. -/
structure St (F : FTy → Type) where
  qx2 : Vec F S1024x128 .f32
  qy2 : Vec F S1024x128 .f32
  qnx : Vec F S1x1024 .f32
  qny : Vec F S1x1024 .f32
  dsx : Vec F S1x1024 .f32
  dsy : Vec F S1x1024 .f32
  mx : Vec F S1x1024 .f32
  my : Vec F S1x1024 .f32
  ax : Vec F S1x1 .f32
  ay : Vec F S1x1 .f32
  sx : Vec F S1x1 .f32
  sy : Vec F S1x1 .f32

/-- The only index of a one-by-one array. -/
abbrev o11 : S1x1.Idx := Shape.Idx.first (show 0 < S1x1.numel by decide)

/-- What the first point stores before it reads its blocks. -/
def initS (o : Ops F) : St F where
  qx2 := k1_pay6 o.xg o.w1 o.w2
  qy2 := k1_pay7 o.yg o.u1 o.u2
  qnx := k1_pay9 (k1_pay8 o.xg o.w1 o.w2)
  qny := k1_pay10 (k1_pay5 o.yg o.u1 o.u2)
  dsx := k1_pay11 (k1_pay4 o.xg o.w1 o.w2) o.tx
  dsy := k1_pay13 (k1_pay12 (k1_pay5 o.yg o.u1 o.u2) o.ty)
  mx := k1_pay16
  my := k1_pay17
  ax := fun _ => Scalar.ofBits .f32 0x00000000#32
  ay := fun _ => Scalar.ofBits .f32 0x00000000#32
  sx := fun _ => k1_pay14 (k1_pay4 o.xg o.w1 o.w2) o.yg
  sy := fun _ => k1_pay15 (k1_pay5 o.yg o.u1 o.u2) o.xg

/-- What a point makes of the scratch with its two blocks. -/
def stepS (o : Ops F) (x y : Vec F S4000x128 .f32) (s : St F) : St F :=
  { s with
    ax := fun _ => k1_pay22 x o.w1 o.w2 o.u1 o.u2 (s.ax o11)
    my := k1_pay24 x (k1_pay23 x) s.qy2 s.my
    ay := fun _ => k1_pay1 (s.ay o11) (k1_pay25 y o.u1 o.u2 o.w1 o.w2)
    mx := k1_pay2 y s.qx2 s.mx }

/-- What the last point stores as the result. -/
def outS (s : St F) : Vec F S1x1 .f32 :=
  k1_pay3 (k1_pay18 s.qnx s.mx s.dsx s.mx) (k1_pay19 s.qny s.my) (k1_pay20 s.dsy s.my) k1_pay21 (s.ax o11) (s.ay o11) (s.sx o11) (s.sy o11)

/-! ## Whole buffers -/

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The pair of zeros is the constant zero. -/
theorem hz2 : (![0, 0] : Fin 2 → ℕ) = fun _ => 0 := funext fun a => by fin_cases a <;> rfl

section Whole

variable {sp : Space} {S : Shape} {e : EltTy} {M : Memref sig .tc sp S e}

/-- A load of all of a whole buffer reads what it holds. -/
theorem readAt_all (h : M.IsWhole) {off : Fin S.rank → ℕ} (hz : off = fun _ => 0) (inb : ∀ a, off a + S.size a ≤ S.size a)
    (X : S.Idx → Elt F e) : View.readAt (Elt F) M.view (Rect.unit off S.size inb).toLoadRect (h.unread X) = X := by
  rw [View.readAt_eq_ld, h.read_unread, View.ld_unit_zero hz]

/-- A store over all of a whole buffer leaves what it stores. -/
theorem writes_all (h : M.IsWhole) {off : Fin S.rank → ℕ} (hz : off = fun _ => 0) (inb : ∀ a, off a + S.size a ≤ S.size a)
    (f : M.view.ty.Contents (Elt F)) (w : S.Idx → Elt F e) (L : List (View.Piece (Elt F) S e)) :
    M.view.writes (Elt F) f (⟨Rect.unit off S.size inb, w⟩ :: L) = h.unread w := by
  subst hz
  refine h.eq_unread (funext fun y => ?_)
  have := View.read_writes_cons_emb M.view f (Rect.whole S) w L y
  rw [Rect.emb_whole_apply] at this
  exact this

end Whole

section Body

variable (a1 : Memref sig .tc .vmem S4000x128 .f32) (h1 : a1.IsWhole)
variable (a2 : Memref sig .tc .vmem S4000x128 .f32) (h2 : a2.IsWhole)
variable (a3 : Memref sig .tc .vmem S128x100 .f32) (h3 : a3.IsWhole)
variable (a4 : Memref sig .tc .vmem S100x128 .f32) (h4 : a4.IsWhole)
variable (a5 : Memref sig .tc .vmem S128x100 .f32) (h5 : a5.IsWhole)
variable (a6 : Memref sig .tc .vmem S100x128 .f32) (h6 : a6.IsWhole)
variable (a7 : Memref sig .tc .vmem S1024x128 .f32) (h7 : a7.IsWhole)
variable (a8 : Memref sig .tc .vmem S1024x128 .f32) (h8 : a8.IsWhole)
variable (a9 : Memref sig .tc .vmem S1024x128 .f32) (h9 : a9.IsWhole)
variable (a10 : Memref sig .tc .vmem S1024x128 .f32) (h10 : a10.IsWhole)
variable (a11 : Memref sig .tc .vmem S1x1 .f32) (h11 : a11.IsWhole)
variable (a12 : Memref sig .tc .vmem S1024x128 .f32) (h12 : a12.IsWhole)
variable (a13 : Memref sig .tc .vmem S1024x128 .f32) (h13 : a13.IsWhole)
variable (a14 : Memref sig .tc .vmem S1x1024 .f32) (h14 : a14.IsWhole)
variable (a15 : Memref sig .tc .vmem S1x1024 .f32) (h15 : a15.IsWhole)
variable (a16 : Memref sig .tc .vmem S1x1024 .f32) (h16 : a16.IsWhole)
variable (a17 : Memref sig .tc .vmem S1x1024 .f32) (h17 : a17.IsWhole)
variable (a18 : Memref sig .tc .vmem S1x1024 .f32) (h18 : a18.IsWhole)
variable (a19 : Memref sig .tc .vmem S1x1024 .f32) (h19 : a19.IsWhole)
variable (a20 : Memref sig .tc .smem S1x1 .f32) (h20 : a20.IsWhole)
variable (a21 : Memref sig .tc .smem S1x1 .f32) (h21 : a21.IsWhole)
variable (a22 : Memref sig .tc .smem S1x1 .f32) (h22 : a22.IsWhole)
variable (a23 : Memref sig .tc .smem S1x1 .f32) (h23 : a23.IsWhole)

/-- The ten input blocks held at their values. -/
def ins (c : Dev nD) (o : Ops F) (x y : Vec F S4000x128 .f32) : sProp 𝕄 :=
  iprop(pt c a1 (h1.unread x) ∗ pt c a2 (h2.unread y) ∗ pt c a3 (h3.unread o.w1) ∗ pt c a4 (h4.unread o.w2) ∗ pt c a5 (h5.unread o.u1) ∗ pt c a6 (h6.unread o.u2) ∗ pt c a7 (h7.unread o.xg) ∗ pt c a8 (h8.unread o.yg) ∗ pt c a9 (h9.unread o.tx) ∗ pt c a10 (h10.unread o.ty))

/-- The scratch buffers held at the values `s`. -/
def scr (c : Dev nD) (s : St F) : sProp 𝕄 :=
  iprop(pt c a12 (h12.unread s.qx2) ∗ pt c a13 (h13.unread s.qy2) ∗ pt c a14 (h14.unread s.qnx) ∗ pt c a15 (h15.unread s.qny) ∗ pt c a16 (h16.unread s.dsx) ∗ pt c a17 (h17.unread s.dsy) ∗ pt c a18 (h18.unread s.mx) ∗ pt c a19 (h19.unread s.my) ∗ pt c a20 (h20.unread s.ax) ∗ pt c a21 (h21.unread s.ay) ∗ pt c a22 (h22.unread s.sx) ∗ pt c a23 (h23.unread s.sy))

/-- The body on these blocks and the kernel's scratch. -/
abbrev bodyOn (i : grid1.Coords) : Prog (TpuEff nD τ sig (Elt F) Λ₀ .tc) PUnit :=
  cc1__main_body i a1 h1 a2 h2 a3 h3 a4 h4 a5 h5 a6 h6 a7 h7 a8 h8 a9 h9 a10 h10 a11 h11
    a12 h12 a13 h13 a14 h14 a15 h15 a16 h16 a17 h17 a18 h18 a19 h19 a20 h20 a21 h21 a22 h22 a23 h23

/-- The condition of the first point's initialisation. -/
abbrev isFirst (i : grid1.Coords) : Prop :=
  Scalar.cmpi .ne (Scalar.extui (Scalar.cmpi .eq (BitVec.ofNat 32 (i 0).val) 0#32) : BitVec 32) 0#32 = 1#1

set_option maxHeartbeats 4000000 in
/-- The body at a point that is neither the first nor the last. -/
theorem body_mid (c : Dev nD) (i : grid1.Coords) (hf : ¬ isFirst i) (hl : ¬ k1_cond2 i = 1#1) (o : Ops F) (x y : Vec F S4000x128 .f32) (s : St F)
    (z : Vec F S1x1 .f32) (E : Set ℕ) (Q : PUnit → sProp 𝕄) :
    iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c s ∗ pt c a11 (h11.unread z)
      ∗ (iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c (stepS o x y s) ∗ pt c a11 (h11.unread z)) -∗ Q ⟨⟩))
      ⊢ wp frame (wpE (defs₀ (F := F)) Variants.none c none) E (bodyOn a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 i) Q := by
  unfold bodyOn ins scr
  rw [cc1__main_body_eq_skeleton]; unfold cc1__main_body_skel
  rw [k1_part5_eq_skeleton, k1_part6_eq_skeleton, k1_part4_eq_skeleton]
  unfold k1_part5_skel k1_part6_skel k1_part4_skel
  rw [k1_part1_eq_skeleton, k1_part2_eq_skeleton, k1_part3_eq_skeleton]
  unfold k1_part1_skel k1_part2_skel k1_part3_skel
  dsimp only
  rw [dif_neg hf, dif_neg hl]
  iintro ⟨⟨I1, I2, I3, I4, I5, I6, I7, I8, I9, I10⟩, ⟨S0, S1, S2, S3, S4, S5, S6, S7, S8, S9, S10, S11⟩, O, Hk⟩
  sl_exec
  sl_step
  sl_unfold_words
  simp only [readAt_all (S := S4000x128) _ hz2, readAt_all (S := S128x100) _ hz2, readAt_all (S := S100x128) _ hz2, readAt_all (S := S1024x128) _ hz2, readAt_all (S := S1x1024) _ hz2, readAt_all (S := S1x1) _ hz2, View.readCov_unit_zero (S := S1024x128) _ hz2, View.readCov_unit_zero (S := S1x1024) _ hz2, View.readCov_unit_zero (S := S1x1) _ hz2, writes_all h11 hz2, writes_all h12 hz2, writes_all h13 hz2, writes_all h14 hz2, writes_all h15 hz2, writes_all h16 hz2, writes_all h17 hz2, writes_all h18 hz2, writes_all h19 hz2, writes_all h20 hz2, writes_all h21 hz2, writes_all h22 hz2, writes_all h23 hz2]
  iapply Hk
  isplitl [I1 I2 I3 I4 I5 I6 I7 I8 I9 I10]
  · isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  isplitl [S0 S1 S2 S3 S4 S5 S6 S7 S8 S9 S10 S11]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact O

set_option maxHeartbeats 4000000 in
/-- The body at the first point: from any scratch. -/
theorem body_first (c : Dev nD) (i : grid1.Coords) (hf : isFirst i) (hl : ¬ k1_cond2 i = 1#1) (o : Ops F) (x y : Vec F S4000x128 .f32) (s : St F)
    (z : Vec F S1x1 .f32) (E : Set ℕ) (Q : PUnit → sProp 𝕄) :
    iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c s ∗ pt c a11 (h11.unread z)
      ∗ (iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c (stepS o x y (initS o)) ∗ pt c a11 (h11.unread z)) -∗ Q ⟨⟩))
      ⊢ wp frame (wpE (defs₀ (F := F)) Variants.none c none) E (bodyOn a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 i) Q := by
  unfold bodyOn ins scr
  rw [cc1__main_body_eq_skeleton]; unfold cc1__main_body_skel
  rw [k1_part5_eq_skeleton, k1_part6_eq_skeleton, k1_part4_eq_skeleton]
  unfold k1_part5_skel k1_part6_skel k1_part4_skel
  rw [k1_part1_eq_skeleton, k1_part2_eq_skeleton, k1_part3_eq_skeleton]
  unfold k1_part1_skel k1_part2_skel k1_part3_skel
  dsimp only
  rw [dif_pos hf, dif_neg hl]
  iintro ⟨⟨I1, I2, I3, I4, I5, I6, I7, I8, I9, I10⟩, ⟨S0, S1, S2, S3, S4, S5, S6, S7, S8, S9, S10, S11⟩, O, Hk⟩
  sl_exec
  sl_step
  sl_unfold_words
  simp only [readAt_all (S := S4000x128) _ hz2, readAt_all (S := S128x100) _ hz2, readAt_all (S := S100x128) _ hz2, readAt_all (S := S1024x128) _ hz2, readAt_all (S := S1x1024) _ hz2, readAt_all (S := S1x1) _ hz2, View.readCov_unit_zero (S := S1024x128) _ hz2, View.readCov_unit_zero (S := S1x1024) _ hz2, View.readCov_unit_zero (S := S1x1) _ hz2, writes_all h11 hz2, writes_all h12 hz2, writes_all h13 hz2, writes_all h14 hz2, writes_all h15 hz2, writes_all h16 hz2, writes_all h17 hz2, writes_all h18 hz2, writes_all h19 hz2, writes_all h20 hz2, writes_all h21 hz2, writes_all h22 hz2, writes_all h23 hz2]
  iapply Hk
  isplitl [I1 I2 I3 I4 I5 I6 I7 I8 I9 I10]
  · isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  isplitl [S0 S1 S2 S3 S4 S5 S6 S7 S8 S9 S10 S11]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact O

set_option maxHeartbeats 4000000 in
/-- The body at the last point: the result is stored. -/
theorem body_last (c : Dev nD) (i : grid1.Coords) (hf : ¬ isFirst i) (hl : k1_cond2 i = 1#1) (o : Ops F) (x y : Vec F S4000x128 .f32) (s : St F)
    (z : Vec F S1x1 .f32) (E : Set ℕ) (Q : PUnit → sProp 𝕄) :
    iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c s ∗ pt c a11 (h11.unread z)
      ∗ (iprop(ins a1 h1 a2 h2 a3 h3 a4 h4 a5 h5 a6 h6 a7 h7 a8 h8 a9 h9 a10 h10 c o x y ∗ scr a12 h12 a13 h13 a14 h14 a15 h15 a16 h16 a17 h17 a18 h18 a19 h19 a20 h20 a21 h21 a22 h22 a23 h23 c (stepS o x y s) ∗ pt c a11 (h11.unread (outS (stepS o x y s)))) -∗ Q ⟨⟩))
      ⊢ wp frame (wpE (defs₀ (F := F)) Variants.none c none) E (bodyOn a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 i) Q := by
  unfold bodyOn ins scr
  rw [cc1__main_body_eq_skeleton]; unfold cc1__main_body_skel
  rw [k1_part5_eq_skeleton, k1_part6_eq_skeleton, k1_part4_eq_skeleton]
  unfold k1_part5_skel k1_part6_skel k1_part4_skel
  rw [k1_part1_eq_skeleton, k1_part2_eq_skeleton, k1_part3_eq_skeleton]
  unfold k1_part1_skel k1_part2_skel k1_part3_skel
  dsimp only
  rw [dif_neg hf, dif_pos hl]
  iintro ⟨⟨I1, I2, I3, I4, I5, I6, I7, I8, I9, I10⟩, ⟨S0, S1, S2, S3, S4, S5, S6, S7, S8, S9, S10, S11⟩, O, Hk⟩
  sl_exec
  sl_step
  sl_unfold_words
  simp only [readAt_all (S := S4000x128) _ hz2, readAt_all (S := S128x100) _ hz2, readAt_all (S := S100x128) _ hz2, readAt_all (S := S1024x128) _ hz2, readAt_all (S := S1x1024) _ hz2, readAt_all (S := S1x1) _ hz2, View.readCov_unit_zero (S := S1024x128) _ hz2, View.readCov_unit_zero (S := S1x1024) _ hz2, View.readCov_unit_zero (S := S1x1) _ hz2, writes_all h11 hz2, writes_all h12 hz2, writes_all h13 hz2, writes_all h14 hz2, writes_all h15 hz2, writes_all h16 hz2, writes_all h17 hz2, writes_all h18 hz2, writes_all h19 hz2, writes_all h20 hz2, writes_all h21 hz2, writes_all h22 hz2, writes_all h23 hz2]
  iapply Hk
  isplitl [I1 I2 I3 I4 I5 I6 I7 I8 I9 I10]
  · isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    iexact I10
  isplitl [S0 S1 S2 S3 S4 S5 S6 S7 S8 S9 S10 S11]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  iexact O

end Body

end Cert.Proof.IdealRun
end
-- ==== Proof.IdealRegion.lean ====
/- The TensorCore half of the kernel over its whole grid: what the scratch holds before each point, the proof data of the
   pipelined call, the body's obligation at every point and the call as one step of the host program, entered with the
   core's buffers at any contents and left with the result's buffer at the value the last point stores. -/
module

public import proofs.«01_k».proof.Proof.IdealBody
public import Idealize.ShloMosaic.Lib.Pipeline.RegionsLoop

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The points -/

/-- The grid has 25 points. -/
theorem N25 : cfg1.N = 25 := N_1

/-- Point number `n` of the grid (counted round). -/
def ptAt (n : ℕ) : Fin cfg1.N := ⟨n % 25, by rw [N25]; exact Nat.mod_lt _ (by decide)⟩

/-- A point's number names the point. -/
theorem ptAt_val (t : Fin cfg1.N) : ptAt t.val = t := by
  have h : t.val < 25 := lt_of_lt_of_eq t.isLt N25
  exact Fin.ext (Nat.mod_eq_of_lt h)

/-- The first point alone is the point numbered 0. -/
theorem first_iff : ∀ t : Fin cfg1.N, isFirst (grid1.coords t) ↔ t.val = 0 := by decide
/-- The closing condition holds at the point numbered 24 alone. -/
theorem last_iff : ∀ t : Fin cfg1.N, k1_cond2 (grid1.coords t) = 1#1 ↔ t.val = 24 := by decide
/-- The result's buffer is idle at every point but the last. -/
theorem idle_out : ∀ t : Fin cfg1.N, idle1 10 (grid1.coords t) = !decide (t.val = 24) := by decide

section Region

variable (V : (c : Dev nD) → (b : Ref sig .tc) → Buf (Elt F) ((c : Thread nD τ).loc b))

/-- The operands that stay put, read off the buffers. -/
def opsV (c : Dev nD) : Ops F where
  w1 := V c main_arg2
  w2 := V c main_arg4
  u1 := V c main_arg6
  u2 := V c main_arg8
  xg := V c main_v4_0
  yg := V c main_v4_1
  tx := V c main_v4_2
  ty := V c main_v4_3

/-- The block of the first table at point `n`. -/
def xb (c : Dev nD) (n : ℕ) : Vec F S4000x128 .f32 := ((cfg1.win 0).blk (ptAt n)).view.read (Elt F) (V c main_arg0)
/-- The block of the second table at point `n`. -/
def yb (c : Dev nD) (n : ℕ) : Vec F S4000x128 .f32 := ((cfg1.win 1).blk (ptAt n)).view.read (Elt F) (V c main_arg1)

/-- What the scratch holds before point `n` (before the first: what the first starts from once it has initialised). -/
def stN (c : Dev nD) : ℕ → St F
  | 0 => initS (opsV V c)
  | n + 1 => stepS (opsV V c) (xb V c n) (yb V c n) (stN c n)

/-- The kernel's scratch buffers held at the values `s`. -/
def scrW (c : Dev nD) (s : St F) : sProp 𝕄 :=
  scr (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) c s

/-- The proof data of the call: the arrays at the entry contents; after the body each input's buffer at its block and the
    result's at the last point's value; between points the scratch at its running values; nothing owed; the waits recorded
    no later than the SparseCore call. -/
def dat (c : Dev nD) : Dat τ (Elt F) (HIx 1) ℕ UU ℕ cfg1 c where
  A w := V c (Pipeline.arrRef spec1 w)
  after w t := match w with
    | ⟨0, _⟩ => ((cfg1.win 0).blk t).view.read (Elt F) (V c main_arg0)
    | ⟨1, _⟩ => ((cfg1.win 1).blk t).view.read (Elt F) (V c main_arg1)
    | ⟨2, _⟩ => ((cfg1.win 2).blk t).view.read (Elt F) (V c main_arg2)
    | ⟨3, _⟩ => ((cfg1.win 3).blk t).view.read (Elt F) (V c main_arg4)
    | ⟨4, _⟩ => ((cfg1.win 4).blk t).view.read (Elt F) (V c main_arg6)
    | ⟨5, _⟩ => ((cfg1.win 5).blk t).view.read (Elt F) (V c main_arg8)
    | ⟨6, _⟩ => ((cfg1.win 6).blk t).view.read (Elt F) (V c main_v4_0)
    | ⟨7, _⟩ => ((cfg1.win 7).blk t).view.read (Elt F) (V c main_v4_1)
    | ⟨8, _⟩ => ((cfg1.win 8).blk t).view.read (Elt F) (V c main_v4_2)
    | ⟨9, _⟩ => ((cfg1.win 9).blk t).view.read (Elt F) (V c main_v4_3)
    | ⟨10, _⟩ => outS (stN V c 25)
  Φ t := iprop(∃ s : St F, ⌜t.val ≠ 0 → s = stN V c t.val⌝ ∗ scrW c s)
  q _ := fullShare
  owed _ := 0
  recorded _ := {p | (K (F := F)).lev ((c : Thread nD τ), p.1) p.2 ≤ 8}

/-- Before a point, the buffer of operand 0 holds its array read through the point's block. -/
theorem before_0 (c : Dev nD) (t : Fin cfg1.N) (d) :
    (dat V c).before 0 t d = ((cfg1.win 0).blk t).view.read (Elt F) (V c main_arg0) :=
  Dat.before_in_eq_fetched (dat V c) 0 rfl (fun _ => rfl) (fun _ _ _ => rfl) (fun _ => rfl) t d

/-- Before a point, the buffer of operand 1 holds its array read through the point's block. -/
theorem before_1 (c : Dev nD) (t : Fin cfg1.N) (d) :
    (dat V c).before 1 t d = ((cfg1.win 1).blk t).view.read (Elt F) (V c main_arg1) :=
  Dat.before_in_eq_fetched (dat V c) 1 rfl (fun _ => rfl) (fun _ _ _ => rfl) (fun _ => rfl) t d

/-- Before a point, the buffer of operand 2 holds its array read through the point's block. -/
theorem before_2 (c : Dev nD) (t : Fin cfg1.N) (d) :
    (dat V c).before 2 t d = ((cfg1.win 2).blk t).view.read (Elt F) (V c main_arg2) :=
  Dat.before_in_eq_fetched (dat V c) 2 rfl (fun _ => rfl) (fun _ _ _ => rfl) (fun _ => rfl) t d

/-- Before a point, the buffer of operand 3 holds its array read through the point's block. -/
theorem before_3 (c : Dev nD) (t : Fin cfg1.N) (d) :
    (dat V c).before 3 t d = ((cfg1.win 3).blk t).view.read (Elt F) (V c main_arg4) :=
  Dat.before_in_eq_fetched (dat V c) 3 rfl (fun _ => rfl) (fun _ _ _ => rfl) (fun _ => rfl) t d

/-- Before a point, the buffer of operand 4 holds its array read through the point's block. -/
theorem before_4 (c : Dev nD) (t : Fin cfg1.N) (d) :
    (dat V c).before 4 t d = ((cfg1.win 4).blk t).view.read (Elt F) (V c main_arg6) :=
  Dat.before_in_eq_fetched (dat V c) 4 rfl (fun _ => rfl) (fun _ _ _ => rfl) (fun _ => rfl) t d

/-- Before a point, the buffer of operand 5 holds its array read through the point's block. -/
theorem before_5 (c : Dev nD) (t : Fin cfg1.N) (d) :
    (dat V c).before 5 t d = ((cfg1.win 5).blk t).view.read (Elt F) (V c main_arg8) :=
  Dat.before_in_eq_fetched (dat V c) 5 rfl (fun _ => rfl) (fun _ _ _ => rfl) (fun _ => rfl) t d

/-- Before a point, the buffer of operand 6 holds its array read through the point's block. -/
theorem before_6 (c : Dev nD) (t : Fin cfg1.N) (d) :
    (dat V c).before 6 t d = ((cfg1.win 6).blk t).view.read (Elt F) (V c main_v4_0) :=
  Dat.before_in_eq_fetched (dat V c) 6 rfl (fun _ => rfl) (fun _ _ _ => rfl) (fun _ => rfl) t d

/-- Before a point, the buffer of operand 7 holds its array read through the point's block. -/
theorem before_7 (c : Dev nD) (t : Fin cfg1.N) (d) :
    (dat V c).before 7 t d = ((cfg1.win 7).blk t).view.read (Elt F) (V c main_v4_1) :=
  Dat.before_in_eq_fetched (dat V c) 7 rfl (fun _ => rfl) (fun _ _ _ => rfl) (fun _ => rfl) t d

/-- Before a point, the buffer of operand 8 holds its array read through the point's block. -/
theorem before_8 (c : Dev nD) (t : Fin cfg1.N) (d) :
    (dat V c).before 8 t d = ((cfg1.win 8).blk t).view.read (Elt F) (V c main_v4_2) :=
  Dat.before_in_eq_fetched (dat V c) 8 rfl (fun _ => rfl) (fun _ _ _ => rfl) (fun _ => rfl) t d

/-- Before a point, the buffer of operand 9 holds its array read through the point's block. -/
theorem before_9 (c : Dev nD) (t : Fin cfg1.N) (d) :
    (dat V c).before 9 t d = ((cfg1.win 9).blk t).view.read (Elt F) (V c main_v4_3) :=
  Dat.before_in_eq_fetched (dat V c) 9 rfl (fun _ => rfl) (fun _ _ _ => rfl) (fun _ => rfl) t d

/-- The point's block of operand 2 is the first layer of the first network, whole. -/
theorem blk_2 (c : Dev nD) (t : Fin cfg1.N) :
    ((cfg1.win 2).blk t).view.read (Elt F) (V c main_arg2) = (opsV V c).w1 := by
  have hz' : (fun a => win1_2.index t a * main_arg2.ty.shape.size a) = fun _ => 0 := funext fun a => by fin_cases a <;> rfl
  exact Memref.read_access_unit_zero (Elt F) main_arg2 hz' (fun a => by rw [congrFun hz' a]; simp) (V c main_arg2)

/-- The point's block of operand 3 is the second layer of the first network, whole. -/
theorem blk_3 (c : Dev nD) (t : Fin cfg1.N) :
    ((cfg1.win 3).blk t).view.read (Elt F) (V c main_arg4) = (opsV V c).w2 := by
  have hz' : (fun a => win1_3.index t a * main_arg4.ty.shape.size a) = fun _ => 0 := funext fun a => by fin_cases a <;> rfl
  exact Memref.read_access_unit_zero (Elt F) main_arg4 hz' (fun a => by rw [congrFun hz' a]; simp) (V c main_arg4)

/-- The point's block of operand 4 is the first layer of the second network, whole. -/
theorem blk_4 (c : Dev nD) (t : Fin cfg1.N) :
    ((cfg1.win 4).blk t).view.read (Elt F) (V c main_arg6) = (opsV V c).u1 := by
  have hz' : (fun a => win1_4.index t a * main_arg6.ty.shape.size a) = fun _ => 0 := funext fun a => by fin_cases a <;> rfl
  exact Memref.read_access_unit_zero (Elt F) main_arg6 hz' (fun a => by rw [congrFun hz' a]; simp) (V c main_arg6)

/-- The point's block of operand 5 is the second layer of the second network, whole. -/
theorem blk_5 (c : Dev nD) (t : Fin cfg1.N) :
    ((cfg1.win 5).blk t).view.read (Elt F) (V c main_arg8) = (opsV V c).u2 := by
  have hz' : (fun a => win1_5.index t a * main_arg8.ty.shape.size a) = fun _ => 0 := funext fun a => by fin_cases a <;> rfl
  exact Memref.read_access_unit_zero (Elt F) main_arg8 hz' (fun a => by rw [congrFun hz' a]; simp) (V c main_arg8)

/-- The point's block of operand 6 is the first gathered array, whole. -/
theorem blk_6 (c : Dev nD) (t : Fin cfg1.N) :
    ((cfg1.win 6).blk t).view.read (Elt F) (V c main_v4_0) = (opsV V c).xg := by
  have hz' : (fun a => win1_6.index t a * main_v4_0.ty.shape.size a) = fun _ => 0 := funext fun a => by fin_cases a <;> rfl
  exact Memref.read_access_unit_zero (Elt F) main_v4_0 hz' (fun a => by rw [congrFun hz' a]; simp) (V c main_v4_0)

/-- The point's block of operand 7 is the second gathered array, whole. -/
theorem blk_7 (c : Dev nD) (t : Fin cfg1.N) :
    ((cfg1.win 7).blk t).view.read (Elt F) (V c main_v4_1) = (opsV V c).yg := by
  have hz' : (fun a => win1_7.index t a * main_v4_1.ty.shape.size a) = fun _ => 0 := funext fun a => by fin_cases a <;> rfl
  exact Memref.read_access_unit_zero (Elt F) main_v4_1 hz' (fun a => by rw [congrFun hz' a]; simp) (V c main_v4_1)

/-- The point's block of operand 8 is the third gathered array, whole. -/
theorem blk_8 (c : Dev nD) (t : Fin cfg1.N) :
    ((cfg1.win 8).blk t).view.read (Elt F) (V c main_v4_2) = (opsV V c).tx := by
  have hz' : (fun a => win1_8.index t a * main_v4_2.ty.shape.size a) = fun _ => 0 := funext fun a => by fin_cases a <;> rfl
  exact Memref.read_access_unit_zero (Elt F) main_v4_2 hz' (fun a => by rw [congrFun hz' a]; simp) (V c main_v4_2)

/-- The point's block of operand 9 is the fourth gathered array, whole. -/
theorem blk_9 (c : Dev nD) (t : Fin cfg1.N) :
    ((cfg1.win 9).blk t).view.read (Elt F) (V c main_v4_3) = (opsV V c).ty := by
  have hz' : (fun a => win1_9.index t a * main_v4_3.ty.shape.size a) = fun _ => 0 := funext fun a => by fin_cases a <;> rfl
  exact Memref.read_access_unit_zero (Elt F) main_v4_3 hz' (fun a => by rw [congrFun hz' a]; simp) (V c main_v4_3)

/-- Before a point, the buffer of operand 2 holds the first layer of the first network. -/
theorem before_2' (c : Dev nD) (t : Fin cfg1.N) (d) : (dat V c).before 2 t d = (opsV V c).w1 := (before_2 V c t d).trans (blk_2 V c t)
/-- After a point, the buffer of operand 2 holds the first layer of the first network. -/
theorem after_2 (c : Dev nD) (t : Fin cfg1.N) : (dat V c).after 2 t = (opsV V c).w1 := blk_2 V c t

/-- Before a point, the buffer of operand 3 holds the second layer of the first network. -/
theorem before_3' (c : Dev nD) (t : Fin cfg1.N) (d) : (dat V c).before 3 t d = (opsV V c).w2 := (before_3 V c t d).trans (blk_3 V c t)
/-- After a point, the buffer of operand 3 holds the second layer of the first network. -/
theorem after_3 (c : Dev nD) (t : Fin cfg1.N) : (dat V c).after 3 t = (opsV V c).w2 := blk_3 V c t

/-- Before a point, the buffer of operand 4 holds the first layer of the second network. -/
theorem before_4' (c : Dev nD) (t : Fin cfg1.N) (d) : (dat V c).before 4 t d = (opsV V c).u1 := (before_4 V c t d).trans (blk_4 V c t)
/-- After a point, the buffer of operand 4 holds the first layer of the second network. -/
theorem after_4 (c : Dev nD) (t : Fin cfg1.N) : (dat V c).after 4 t = (opsV V c).u1 := blk_4 V c t

/-- Before a point, the buffer of operand 5 holds the second layer of the second network. -/
theorem before_5' (c : Dev nD) (t : Fin cfg1.N) (d) : (dat V c).before 5 t d = (opsV V c).u2 := (before_5 V c t d).trans (blk_5 V c t)
/-- After a point, the buffer of operand 5 holds the second layer of the second network. -/
theorem after_5 (c : Dev nD) (t : Fin cfg1.N) : (dat V c).after 5 t = (opsV V c).u2 := blk_5 V c t

/-- Before a point, the buffer of operand 6 holds the first gathered array. -/
theorem before_6' (c : Dev nD) (t : Fin cfg1.N) (d) : (dat V c).before 6 t d = (opsV V c).xg := (before_6 V c t d).trans (blk_6 V c t)
/-- After a point, the buffer of operand 6 holds the first gathered array. -/
theorem after_6 (c : Dev nD) (t : Fin cfg1.N) : (dat V c).after 6 t = (opsV V c).xg := blk_6 V c t

/-- Before a point, the buffer of operand 7 holds the second gathered array. -/
theorem before_7' (c : Dev nD) (t : Fin cfg1.N) (d) : (dat V c).before 7 t d = (opsV V c).yg := (before_7 V c t d).trans (blk_7 V c t)
/-- After a point, the buffer of operand 7 holds the second gathered array. -/
theorem after_7 (c : Dev nD) (t : Fin cfg1.N) : (dat V c).after 7 t = (opsV V c).yg := blk_7 V c t

/-- Before a point, the buffer of operand 8 holds the third gathered array. -/
theorem before_8' (c : Dev nD) (t : Fin cfg1.N) (d) : (dat V c).before 8 t d = (opsV V c).tx := (before_8 V c t d).trans (blk_8 V c t)
/-- After a point, the buffer of operand 8 holds the third gathered array. -/
theorem after_8 (c : Dev nD) (t : Fin cfg1.N) : (dat V c).after 8 t = (opsV V c).tx := blk_8 V c t

/-- Before a point, the buffer of operand 9 holds the fourth gathered array. -/
theorem before_9' (c : Dev nD) (t : Fin cfg1.N) (d) : (dat V c).before 9 t d = (opsV V c).ty := (before_9 V c t d).trans (blk_9 V c t)
/-- After a point, the buffer of operand 9 holds the fourth gathered array. -/
theorem after_9 (c : Dev nD) (t : Fin cfg1.N) : (dat V c).after 9 t = (opsV V c).ty := blk_9 V c t

/-- After a point, the buffer of operand 0 holds the block of the first table. -/
theorem after_0 (c : Dev nD) (t : Fin cfg1.N) : (dat V c).after 0 t = xb V c t.val := by
  unfold xb; rw [ptAt_val]; rfl
/-- Before a point, the buffer of operand 0 holds the block of the first table. -/
theorem before_0' (c : Dev nD) (t : Fin cfg1.N) (d) : (dat V c).before 0 t d = xb V c t.val :=
  (before_0 V c t d).trans (after_0 V c t)

/-- After a point, the buffer of operand 1 holds the block of the second table. -/
theorem after_1 (c : Dev nD) (t : Fin cfg1.N) : (dat V c).after 1 t = yb V c t.val := by
  unfold yb; rw [ptAt_val]; rfl
/-- Before a point, the buffer of operand 1 holds the block of the second table. -/
theorem before_1' (c : Dev nD) (t : Fin cfg1.N) (d) : (dat V c).before 1 t d = yb V c t.val :=
  (before_1 V c t d).trans (after_1 V c t)

/-- A whole memref owned at a value is its buffer held at it. -/
theorem owns_pt {sp : Space} {S : Shape} {e : EltTy} {M : Memref sig .tc sp S e} (h : M.IsWhole) (c : Dev nD) (X : S.Idx → Elt F e) :
    (owns (c : Thread nD τ) M fullShare X : sProp 𝕄) = pt c M (h.unread X) := by
  have h1 : (owns (c : Thread nD τ) M fullShare X : sProp 𝕄) ⊢ pt c M (h.unread X) := by
    unfold owns; rw [h.set_eq_univ]
    iintro ⟨%f, %hf, H⟩
    rw [h.eq_unread hf]; iexact H
  have h2 : (pt c M (h.unread X) : sProp 𝕄) ⊢ owns (c : Thread nD τ) M fullShare X := by
    unfold owns; rw [h.set_eq_univ]
    iintro H; iexists _; isplitr; swap; (· iexact H); ipureintro; exact h.read_unread X
  exact BI.Entails.antisymm h1 h2

set_option maxHeartbeats 4000000 in
/-- The body's obligation at every point. -/
theorem body_obligation (c : Dev nD) : BodyObligation (dat V c) (defs₀ (F := F)) 𝒱₀ none Set.univ := fun t => by
  have ht : t.val < 25 := lt_of_lt_of_eq t.isLt N25
  rw [bigSep_W1, bigSep_W1]
  have e0 : ∀ X, (owns (c : Thread nD τ) ((cfg1.win 0).stage (cfg1.slots t 0)) fullShare X : sProp 𝕄) = pt c (win1_0.stage (cfg1.slots t 0)) ((hstage1_0 ((cfg1.slots t 0).cast nbuf1_0)).unread X) := fun X => owns_pt _ c X
  have e1 : ∀ X, (owns (c : Thread nD τ) ((cfg1.win 1).stage (cfg1.slots t 1)) fullShare X : sProp 𝕄) = pt c (win1_1.stage (cfg1.slots t 1)) ((hstage1_1 ((cfg1.slots t 1).cast nbuf1_1)).unread X) := fun X => owns_pt _ c X
  have e2 : ∀ X, (owns (c : Thread nD τ) ((cfg1.win 2).stage (cfg1.slots t 2)) fullShare X : sProp 𝕄) = pt c (win1_2.stage (cfg1.slots t 2)) ((hstage1_2 ((cfg1.slots t 2).cast nbuf1_2)).unread X) := fun X => owns_pt _ c X
  have e3 : ∀ X, (owns (c : Thread nD τ) ((cfg1.win 3).stage (cfg1.slots t 3)) fullShare X : sProp 𝕄) = pt c (win1_3.stage (cfg1.slots t 3)) ((hstage1_3 ((cfg1.slots t 3).cast nbuf1_3)).unread X) := fun X => owns_pt _ c X
  have e4 : ∀ X, (owns (c : Thread nD τ) ((cfg1.win 4).stage (cfg1.slots t 4)) fullShare X : sProp 𝕄) = pt c (win1_4.stage (cfg1.slots t 4)) ((hstage1_4 ((cfg1.slots t 4).cast nbuf1_4)).unread X) := fun X => owns_pt _ c X
  have e5 : ∀ X, (owns (c : Thread nD τ) ((cfg1.win 5).stage (cfg1.slots t 5)) fullShare X : sProp 𝕄) = pt c (win1_5.stage (cfg1.slots t 5)) ((hstage1_5 ((cfg1.slots t 5).cast nbuf1_5)).unread X) := fun X => owns_pt _ c X
  have e6 : ∀ X, (owns (c : Thread nD τ) ((cfg1.win 6).stage (cfg1.slots t 6)) fullShare X : sProp 𝕄) = pt c (win1_6.stage (cfg1.slots t 6)) ((hstage1_6 ((cfg1.slots t 6).cast nbuf1_6)).unread X) := fun X => owns_pt _ c X
  have e7 : ∀ X, (owns (c : Thread nD τ) ((cfg1.win 7).stage (cfg1.slots t 7)) fullShare X : sProp 𝕄) = pt c (win1_7.stage (cfg1.slots t 7)) ((hstage1_7 ((cfg1.slots t 7).cast nbuf1_7)).unread X) := fun X => owns_pt _ c X
  have e8 : ∀ X, (owns (c : Thread nD τ) ((cfg1.win 8).stage (cfg1.slots t 8)) fullShare X : sProp 𝕄) = pt c (win1_8.stage (cfg1.slots t 8)) ((hstage1_8 ((cfg1.slots t 8).cast nbuf1_8)).unread X) := fun X => owns_pt _ c X
  have e9 : ∀ X, (owns (c : Thread nD τ) ((cfg1.win 9).stage (cfg1.slots t 9)) fullShare X : sProp 𝕄) = pt c (win1_9.stage (cfg1.slots t 9)) ((hstage1_9 ((cfg1.slots t 9).cast nbuf1_9)).unread X) := fun X => owns_pt _ c X
  have e10 : ∀ X, (owns (c : Thread nD τ) ((cfg1.win 10).stage (cfg1.slots t 10)) fullShare X : sProp 𝕄) = pt c (win1_10.stage (cfg1.slots t 10)) ((hstage1_10 ((cfg1.slots t 10).cast nbuf1_10)).unread X) := fun X => owns_pt _ c X
  simp only [e0, e1, e2, e3, e4, e5, e6, e7, e8, e9, e10, before_0', before_1', before_2', before_3', before_4', before_5', before_6', before_7', before_8', before_9', after_0, after_1, after_2, after_3, after_4, after_5, after_6, after_7, after_8, after_9]
  rw [show (dat V c).Φ t.castSucc = iprop(∃ s : St F, ⌜t.val ≠ 0 → s = stN V c t.val⌝ ∗ scrW c s) from rfl,
    show (dat V c).Φ t.succ = iprop(∃ s : St F, ⌜t.val + 1 ≠ 0 → s = stN V c (t.val + 1)⌝ ∗ scrW c s) from rfl,
    show (dat V c).owesAt none t.succ = (dat V c).owesAt none t.castSucc from rfl]
  unfold scrW
  by_cases h24 : t.val = 24
  · have hlastv : (dat V c).after 10 t = outS (stepS (opsV V c) (xb V c t.val) (yb V c t.val) (stN V c t.val)) := by
      show outS (stN V c 25) = _; rw [h24]; rfl
    have hidle : idle1 10 (grid1.coords t) = false := by rw [idle_out]; simp [h24]
    simp only [hidle]
    iintro ⟨⟨%s, %hs, HS⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := hs (by omega)
    have hrun := fun z => body_last (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) c (grid1.coords t) (fun h => by have := (first_iff t).mp h; omega) ((last_iff t).mpr h24) (opsV V c) (xb V c t.val) (yb V c t.val) (stN V c t.val) z Set.univ
    iapply (hrun _ _)
    isplitl [H0 H1 H2 H3 H4 H5 H6 H7 H8 H9]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    isplitl [H10]; · iexact H10
    unfold ins
    iintro ⟨⟨H0, H1, H2, H3, H4, H5, H6, H7, H8, H9⟩, HS, H10⟩
    isplitl [HS]
    · iexists (_ : St F); isplitr; swap; (· iexact HS); ipureintro; intro _
      rfl
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    rw [hlastv]; iexact H10
  · have hflush : (win1 10).flush t = false := by
      cases h : (win1 10).flush t with
      | false => rfl
      | true => have := (flush1_10 t).mp h; omega
    have hidle : idle1 10 (grid1.coords t) = true := by rw [idle_out]; simp [h24]
    simp only [hidle, hflush]
    iintro ⟨⟨%s, %hs, HS⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    by_cases h0 : t.val = 0
    · have hrun := fun z => body_first (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) c (grid1.coords t) ((first_iff t).mpr h0) (fun h => h24 ((last_iff t).mp h)) (opsV V c) (xb V c t.val) (yb V c t.val) s z Set.univ
      iapply (hrun _ _)
      isplitl [H0 H1 H2 H3 H4 H5 H6 H7 H8 H9]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HS]; · iexact HS
      isplitl [H10]; · iexact H10
      unfold ins
      iintro ⟨⟨H0, H1, H2, H3, H4, H5, H6, H7, H8, H9⟩, HS, H10⟩
      isplitl [HS]
      · iexists (_ : St F); isplitr; swap; (· iexact HS); ipureintro; intro _
        rw [h0]; rfl
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists d10; iexact H10
    obtain rfl := hs h0
    have hrun := fun z => body_mid (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) c (grid1.coords t) (fun h => h0 ((first_iff t).mp h)) (fun h => h24 ((last_iff t).mp h)) (opsV V c) (xb V c t.val) (yb V c t.val) (stN V c t.val) z Set.univ
    iapply (hrun _ _)
    isplitl [H0 H1 H2 H3 H4 H5 H6 H7 H8 H9]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    isplitl [H10]; · iexact H10
    unfold ins
    iintro ⟨⟨H0, H1, H2, H3, H4, H5, H6, H7, H8, H9⟩, HS, H10⟩
    isplitl [HS]
    · iexists (_ : St F); isplitr; swap; (· iexact HS); ipureintro; intro _
      rfl
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

/-! ## The region -/

/-- A whole buffer's memref held at a value is the buffer held at it. -/
theorem pt_whole (c : Dev nD) (b : Ref sig .tc) (X : b.ty.shape.Idx → Elt F b.ty.elt) :
    pt c (Memref.whole b) ((Memref.isWhole_whole b).unread (Val := Elt F) X) = (((c : Thread nD τ).loc b) ↦{fullShare} X : sProp 𝕄) := by
  have h : (Memref.isWhole_whole b).unread (Val := Elt F) X = X := ((Memref.isWhole_whole b).eq_unread (Val := Elt F) (f := X) (X := X) rfl).symm
  rw [h]

/-- The scratch held at values, buffer by buffer. -/
theorem scrW_eq (c : Dev nD) (s : St F) : scrW c s = (iprop((((c : Thread nD τ).loc cc1_scratch0) ↦{fullShare} (s.qx2 : Buf (Elt F) ((c : Thread nD τ).loc cc1_scratch0))) ∗ (((c : Thread nD τ).loc cc1_scratch1) ↦{fullShare} (s.qy2 : Buf (Elt F) ((c : Thread nD τ).loc cc1_scratch1))) ∗ (((c : Thread nD τ).loc cc1_scratch2) ↦{fullShare} (s.qnx : Buf (Elt F) ((c : Thread nD τ).loc cc1_scratch2))) ∗ (((c : Thread nD τ).loc cc1_scratch3) ↦{fullShare} (s.qny : Buf (Elt F) ((c : Thread nD τ).loc cc1_scratch3))) ∗ (((c : Thread nD τ).loc cc1_scratch4) ↦{fullShare} (s.dsx : Buf (Elt F) ((c : Thread nD τ).loc cc1_scratch4))) ∗ (((c : Thread nD τ).loc cc1_scratch5) ↦{fullShare} (s.dsy : Buf (Elt F) ((c : Thread nD τ).loc cc1_scratch5))) ∗ (((c : Thread nD τ).loc cc1_scratch6) ↦{fullShare} (s.mx : Buf (Elt F) ((c : Thread nD τ).loc cc1_scratch6))) ∗ (((c : Thread nD τ).loc cc1_scratch7) ↦{fullShare} (s.my : Buf (Elt F) ((c : Thread nD τ).loc cc1_scratch7))) ∗ (((c : Thread nD τ).loc cc1_scratch8) ↦{fullShare} (s.ax : Buf (Elt F) ((c : Thread nD τ).loc cc1_scratch8))) ∗ (((c : Thread nD τ).loc cc1_scratch9) ↦{fullShare} (s.ay : Buf (Elt F) ((c : Thread nD τ).loc cc1_scratch9))) ∗ (((c : Thread nD τ).loc cc1_scratch10) ↦{fullShare} (s.sx : Buf (Elt F) ((c : Thread nD τ).loc cc1_scratch10))) ∗ (((c : Thread nD τ).loc cc1_scratch11) ↦{fullShare} (s.sy : Buf (Elt F) ((c : Thread nD τ).loc cc1_scratch11)))) : sProp 𝕄) := by
  unfold scrW scr
  refine congrArg₂ _ (pt_whole c cc1_scratch0 s.qx2) ?_
  refine congrArg₂ _ (pt_whole c cc1_scratch1 s.qy2) ?_
  refine congrArg₂ _ (pt_whole c cc1_scratch2 s.qnx) ?_
  refine congrArg₂ _ (pt_whole c cc1_scratch3 s.qny) ?_
  refine congrArg₂ _ (pt_whole c cc1_scratch4 s.dsx) ?_
  refine congrArg₂ _ (pt_whole c cc1_scratch5 s.dsy) ?_
  refine congrArg₂ _ (pt_whole c cc1_scratch6 s.mx) ?_
  refine congrArg₂ _ (pt_whole c cc1_scratch7 s.my) ?_
  refine congrArg₂ _ (pt_whole c cc1_scratch8 s.ax) ?_
  refine congrArg₂ _ (pt_whole c cc1_scratch9 s.ay) ?_
  refine congrArg₂ _ (pt_whole c cc1_scratch10 s.sx) ?_
  exact pt_whole c cc1_scratch11 s.sy

/-- The result's array after the region is what the last point stores. -/
theorem final_o (c : Dev nD) : (dat V c).arrAt 10 cfg1.N = (outS (stN V c 25) : Buf (Elt F) ((c : Thread nD τ).loc main_v5)) :=
  (dat V c).arrAt_eq_of_cover 10 (outS (stN V c 25) : Buf (Elt F) ((c : Thread nD τ).loc main_v5))
    (fun t hf => by
      show (cfg1.win 10).cut (grid1.coords t) ((dat V c).after 10 t) = _
      have hz' : (fun a => win1_10.index t a * main_v5.ty.shape.size a) = fun _ => 0 := funext fun a => by fin_cases a <;> rfl
      exact (Memref.read_access_unit_zero (Elt F) main_v5 hz' (fun a => by rw [congrFun hz' a]; simp) (outS (stN V c 25))).symm)
    fun i => ⟨ptAt 24, (flush1_10 (ptAt 24)).mpr rfl, by
      show i ∈ ((View.whole main_v5).slice (win1_10.rect (ptAt 24))).set
      rw [View.set_slice_whole, Rect.mem_set_unit]
      intro a
      have h0 : (i 0 : Nat) < 1 := (i 0).isLt
      have h1 : (i 1 : Nat) < 1 := (i 1).isLt
      match a with
      | ⟨0, _⟩ => exact ⟨Nat.zero_le _, h0⟩
      | ⟨1, _⟩ => exact ⟨Nat.zero_le _, h1⟩⟩

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

set_option maxHeartbeats 1000000 in
set_option backward.isDefEq.respectTransparency.types false in
/-- The call as one step of the host program: entered with every unscoped buffer at `V`, `R` and the core owing nothing
    (what it has recorded no later than the SparseCore call), left with the buffers at `Vp` and the same. -/
def reg (R : Dev nD → sProp 𝕄) (hVp_out : ∀ c, Vp c main_v5 = outS (stN V c 25))
    (hVp_ne : ∀ c (b : Ref sig .tc), b ≠ main_v5 → Vp c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (c : Thread nD τ) W 8⌝ ∗ owes (c : Thread nD τ) (0 : CellTallies nD τ sig (HIx 1)) W)
  post c := iprop(unscopedBufs c (Vp c) ∗ R c ∗ ∃ W, ⌜(K (F := F)).WBelow (c : Thread nD τ) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = iprop(∃ s : St F, ⌜(0 : ℕ) ≠ 0 → s = stN V c 0⌝ ∗ scrW c s) from rfl]
    rw [show Pipeline.scopedRest (Pipeline.pin (pcfgs (F := F)) adm 0).spec c = Pipeline.scopedRest (Ix := HIx 1) (Name := ℕ) (U := UU) (Lvl := ℕ) (Val := Elt F) spec1 c from rfl, scopedRest1_eq]
    simp only [scrW_eq]
    iintro ⟨-, -, ⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩
    iexists (⟨f0, f1, f2, f3, f4, f5, f6, f7, f8, f9, f10, f11⟩ : St F)
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  hout c := by
    rw [Pipeline.ownSems0_none, show (pdats V adm 0 c).Φ (Fin.last _) = iprop(∃ s : St F, ⌜cfg1.N ≠ 0 → s = stN V c cfg1.N⌝ ∗ scrW c s) from rfl]
    rw [show Pipeline.scopedRest (Pipeline.pin (pcfgs (F := F)) adm 0).spec c = Pipeline.scopedRest (Ix := HIx 1) (Name := ℕ) (U := UU) (Lvl := ℕ) (Val := Elt F) spec1 c from rfl, scopedRest1_eq]
    simp only [scrW_eq]
    iintro ⟨%s, -, S0, S1, S2, S3, S4, S5, S6, S7, S8, S9, S10, S11⟩
    isplitr; · iempintro
    isplitr; · iempintro
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg0 (by decide)).symm
        · exact ((pdats V adm 0 c).arrAt_in 1 rfl _).trans (hVp_ne c main_arg1 (by decide)).symm
        · exact ((pdats V adm 0 c).arrAt_in 2 rfl _).trans (hVp_ne c main_arg2 (by decide)).symm
        · exact ((pdats V adm 0 c).arrAt_in 3 rfl _).trans (hVp_ne c main_arg4 (by decide)).symm
        · exact ((pdats V adm 0 c).arrAt_in 4 rfl _).trans (hVp_ne c main_arg6 (by decide)).symm
        · exact ((pdats V adm 0 c).arrAt_in 5 rfl _).trans (hVp_ne c main_arg8 (by decide)).symm
        · exact ((pdats V adm 0 c).arrAt_in 6 rfl _).trans (hVp_ne c main_v4_0 (by decide)).symm
        · exact ((pdats V adm 0 c).arrAt_in 7 rfl _).trans (hVp_ne c main_v4_1 (by decide)).symm
        · exact ((pdats V adm 0 c).arrAt_in 8 rfl _).trans (hVp_ne c main_v4_2 (by decide)).symm
        · exact ((pdats V adm 0 c).arrAt_in 9 rfl _).trans (hVp_ne c main_v4_3 (by decide)).symm
        · exact (final_o V c).trans (hVp_out c).symm)
      (fun b hb => hVp_ne c b fun h => hb (h ▸ Finset.mem_image.mpr ⟨10, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

end Region

end Cert.Proof.IdealRun
end
-- ==== Proof.IdealMain.lean ====
/- The whole program's run: the two index columns cut out by the host, the SparseCore call over them and the tables, the
   pipelined call over what it gathered, the scalar reshaped. From any launch memory whose index columns name rows, every
   run ends with every semaphore back at zero, every argument unchanged and the result the last point's value. -/
module

public import proofs.«01_k».proof.Proof.IdealRegion
public import Idealize.ShloMosaic.Lib.Pipeline.Frame
public import Idealize.ShloMosaic.Lib.StableHlo

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Dealing the buffers over the tiles -/

/-- A conjunction over `2 k` things, taken even and odd. -/
theorem bigSep_blocks (k : ℕ) (Φ : Fin (k * 2) → sProp 𝕄) :
    bigSep Finset.univ Φ = bigSep Finset.univ fun c : Fin 2 => bigSep Finset.univ fun i : Fin k => Φ ⟨i.val * 2 + c.val, by omega⟩ := by
  rw [bigSep_univ_equiv ((Equiv.prodComm (Fin 2) (Fin k)).trans finProdFinEquiv) Φ, bigSep_univ_prod]
  refine bigSep_congr fun c _ => bigSep_congr fun i _ => congrArg Φ (Fin.ext ?_)
  show c.val + 2 * i.val = i.val * 2 + c.val
  omega

/-- The even parts of a share are the parts of its left half. -/
theorem part_even (n : ℕ) (q : PosShare TreeShare) (w : ℕ) : part (n + 1) q (w * 2 + 0) = part n q.left w := by
  show part n (if (w * 2 + 0) % 2 = 0 then q.left else q.right) ((w * 2 + 0) / 2) = _
  rw [if_pos (by omega), show (w * 2 + 0) / 2 = w by omega]
/-- The odd parts of a share are the parts of its right half. -/
theorem part_odd (n : ℕ) (q : PosShare TreeShare) (w : ℕ) : part (n + 1) q (w * 2 + 1) = part n q.right w := by
  show part n (if (w * 2 + 1) % 2 = 0 then q.left else q.right) ((w * 2 + 1) / 2) = _
  rw [if_neg (by omega), show (w * 2 + 1) / 2 = w by omega]

/-- A buffer at a share is the buffer at each of the `2 ^ n` parts of it. -/
theorem pts_part {ℓ : Loc nD τ sig} (f : Buf (Elt F) ℓ) : ∀ (n : ℕ) (q : PosShare TreeShare),
    (ℓ ↦{q} f : sProp 𝕄) = bigSep Finset.univ fun w : Fin (2 ^ n) => (ℓ ↦{part n q w.val} f : sProp 𝕄)
  | 0, q => (bigSep_univ_of_subsingleton (Φ := fun w : Fin 1 => (ℓ ↦{part 0 q w.val} f : sProp 𝕄)) (0 : Fin 1)).symm
  | n + 1, q => by
    refine Eq.trans ?_ (bigSep_blocks (2 ^ n) (fun w : Fin (2 ^ n * 2) => (ℓ ↦{part (n + 1) q w.val} f : sProp 𝕄))).symm
    rw [bigSep_fin_two]
    have h0 : (bigSep Finset.univ fun i : Fin (2 ^ n) => (ℓ ↦{part (n + 1) q (i.val * 2 + (0 : Fin 2).val)} f : sProp 𝕄)) = (ℓ ↦{q.left} f) :=
      (bigSep_congr fun i _ => by rw [show (0 : Fin 2).val = 0 from rfl, part_even]).trans (pts_part f n q.left).symm
    have h1 : (bigSep Finset.univ fun i : Fin (2 ^ n) => (ℓ ↦{part (n + 1) q (i.val * 2 + (1 : Fin 2).val)} f : sProp 𝕄)) = (ℓ ↦{q.right} f) :=
      (bigSep_congr fun i _ => by rw [show (1 : Fin 2).val = 1 from rfl, part_odd]).trans (pts_part f n q.right).symm
    refine Eq.trans ?_ (congrArg₂ (fun A B : sProp 𝕄 => iprop(A ∗ B)) h0 h1).symm
    exact BI.Entails.antisymm (pointsTo_share (PosShare.mem_left_op_right q)).1 (pointsTo_share (PosShare.mem_left_op_right q)).2

/-- Thirty-two things are two cores' sixteen. -/
theorem bigSep_tiles (Φ : Fin 32 → sProp 𝕄) :
    bigSep Finset.univ Φ = bigSep Finset.univ fun c : Fin 2 => bigSep Finset.univ fun i : Fin 16 => Φ (blk c i) :=
  bigSep_blocks 16 Φ

/-- The first index column, whole, is its 32 blocks. -/
theorem xi_blocks (d : Dev nD) (f : Buf (Elt F) (xiLoc d)) :
    (xiLoc d ↦{fullShare} f : sProp 𝕄) = bigSep Finset.univ fun w : Fin 32 => xiLoc d ↦[iSet w]{fullShare} f := by
  rw [← pointsTo_biUnion Finset.univ (ℓ := xiLoc d) iSet (fun _ _ _ _ h => Rect.part_disjoint div1 h), Rect.biUnion_part div1]
/-- The second index column, whole, is its 32 blocks. -/
theorem yi_blocks (d : Dev nD) (f : Buf (Elt F) (yiLoc d)) :
    (yiLoc d ↦{fullShare} f : sProp 𝕄) = bigSep Finset.univ fun w : Fin 32 => yiLoc d ↦[iSet w]{fullShare} f := by
  rw [← pointsTo_biUnion Finset.univ (ℓ := yiLoc d) iSet (fun _ _ _ _ h => Rect.part_disjoint div1 h), Rect.biUnion_part div1]
/-- The first result, whole, is its 32 blocks. -/
theorem g0_blocks (d : Dev nD) (f : Buf (Elt F) (g0Loc d)) :
    (g0Loc d ↦{fullShare} f : sProp 𝕄) = bigSep Finset.univ fun w : Fin 32 => g0Loc d ↦[gSet w]{fullShare} f := by
  rw [← pointsTo_biUnion Finset.univ (ℓ := g0Loc d) gSet (fun _ _ _ _ h => Rect.part_disjoint div2 h), Rect.biUnion_part div2]
/-- The second result, whole, is its 32 blocks. -/
theorem g1_blocks (d : Dev nD) (f : Buf (Elt F) (g1Loc d)) :
    (g1Loc d ↦{fullShare} f : sProp 𝕄) = bigSep Finset.univ fun w : Fin 32 => g1Loc d ↦[gSet w]{fullShare} f := by
  rw [← pointsTo_biUnion Finset.univ (ℓ := g1Loc d) gSet (fun _ _ _ _ h => Rect.part_disjoint div2 h), Rect.biUnion_part div2]
/-- The third result, whole, is its 32 blocks. -/
theorem g2_blocks (d : Dev nD) (f : Buf (Elt F) (g2Loc d)) :
    (g2Loc d ↦{fullShare} f : sProp 𝕄) = bigSep Finset.univ fun w : Fin 32 => g2Loc d ↦[gSet w]{fullShare} f := by
  rw [← pointsTo_biUnion Finset.univ (ℓ := g2Loc d) gSet (fun _ _ _ _ h => Rect.part_disjoint div2 h), Rect.biUnion_part div2]
/-- The fourth result, whole, is its 32 blocks. -/
theorem g3_blocks (d : Dev nD) (f : Buf (Elt F) (g3Loc d)) :
    (g3Loc d ↦{fullShare} f : sProp 𝕄) = bigSep Finset.univ fun w : Fin 32 => g3Loc d ↦[gSet w]{fullShare} f := by
  rw [← pointsTo_biUnion Finset.univ (ℓ := g3Loc d) gSet (fun _ _ _ _ h => Rect.part_disjoint div2 h), Rect.biUnion_part div2]
/-- The first table, whole, is its 32 shares. -/
theorem x_parts (d : Dev nD) (f : Buf (Elt F) (xLoc d)) :
    (xLoc d ↦{fullShare} f : sProp 𝕄) = bigSep Finset.univ fun w : Fin 32 => xLoc d ↦{tq w} f := pts_part f 5 fullShare
/-- The second table, whole, is its 32 shares. -/
theorem y_parts (d : Dev nD) (f : Buf (Elt F) (yLoc d)) :
    (yLoc d ↦{fullShare} f : sProp 𝕄) = bigSep Finset.univ fun w : Fin 32 => yLoc d ↦{tq w} f := pts_part f 5 fullShare

/-- Tile block `w`'s parts of eight buffers. -/
def dealt (d : Dev nD) (f1 : Buf (Elt F) (xiLoc d)) (f2 : Buf (Elt F) (yiLoc d)) (f3 : Buf (Elt F) (xLoc d)) (f4 : Buf (Elt F) (yLoc d))
    (f5 : Buf (Elt F) (g0Loc d)) (f6 : Buf (Elt F) (g1Loc d)) (f7 : Buf (Elt F) (g2Loc d)) (f8 : Buf (Elt F) (g3Loc d)) (w : Fin 32) : sProp 𝕄 :=
  iprop((xiLoc d ↦[iSet w]{fullShare} f1) ∗ (yiLoc d ↦[iSet w]{fullShare} f2) ∗ (xLoc d ↦{tq w} f3) ∗ (yLoc d ↦{tq w} f4)
    ∗ (g0Loc d ↦[gSet w]{fullShare} f5) ∗ (g1Loc d ↦[gSet w]{fullShare} f6)
    ∗ (g2Loc d ↦[gSet w]{fullShare} f7) ∗ (g3Loc d ↦[gSet w]{fullShare} f8))

/-- The eight buffers of the call, whole, are the thirty-two tiles' parts of them. -/
theorem deal (d : Dev nD) (f1 : Buf (Elt F) (xiLoc d)) (f2 : Buf (Elt F) (yiLoc d)) (f3 : Buf (Elt F) (xLoc d)) (f4 : Buf (Elt F) (yLoc d))
    (f5 : Buf (Elt F) (g0Loc d)) (f6 : Buf (Elt F) (g1Loc d)) (f7 : Buf (Elt F) (g2Loc d)) (f8 : Buf (Elt F) (g3Loc d)) :
    iprop((xiLoc d ↦{fullShare} f1) ∗ (yiLoc d ↦{fullShare} f2) ∗ (xLoc d ↦{fullShare} f3) ∗ (yLoc d ↦{fullShare} f4)
        ∗ (g0Loc d ↦{fullShare} f5) ∗ (g1Loc d ↦{fullShare} f6) ∗ (g2Loc d ↦{fullShare} f7) ∗ (g3Loc d ↦{fullShare} f8))
      = (bigSep Finset.univ fun c : Fin 2 => bigSep Finset.univ fun i : Fin 16 => dealt d f1 f2 f3 f4 f5 f6 f7 f8 (blk c i) : sProp 𝕄) := by
  refine Eq.trans ?_ (bigSep_tiles (dealt d f1 f2 f3 f4 f5 f6 f7 f8))
  unfold dealt
  rw [bigSep_sep', bigSep_sep', bigSep_sep', bigSep_sep', bigSep_sep', bigSep_sep', bigSep_sep',
    ← xi_blocks, ← yi_blocks, ← x_parts, ← y_parts, ← g0_blocks, ← g1_blocks, ← g2_blocks, ← g3_blocks]

/-! ## The host's lines -/

/-- The index columns cut out of the index pairs. -/
def ops0 : List (HloOp τ sig (Elt F)) :=
  [StableHlo.unary main_arg10 main_v0 ((extractStridedSlice S1024x1 ![0, 0] · slices_S1024x2_S1024x1_0_0) : (⟨S1024x2, .i32⟩ : BufTy).Contents (Elt F) → (⟨S1024x1, .i32⟩ : BufTy).Contents (Elt F)),
   StableHlo.reshape main_v0 main_v1 (rfl : (.i32 : EltTy) = .i32) shapeCasts_S1024x1_S1024,
   StableHlo.unary main_arg10 main_v2 ((extractStridedSlice S1024x1 ![0, 1] · slices_S1024x2_S1024x1_0_1) : (⟨S1024x2, .i32⟩ : BufTy).Contents (Elt F) → (⟨S1024x1, .i32⟩ : BufTy).Contents (Elt F)),
   StableHlo.reshape main_v2 main_v3 (rfl : (.i32 : EltTy) = .i32) shapeCasts_S1024x1_S1024]
/-- The scalar out of its one-by-one buffer. -/
def ops1 : List (HloOp τ sig (Elt F)) := [StableHlo.reshape main_v5 main_v6 (rfl : (.f32 : EltTy) = .f32) shapeCasts_S1x1_S_]

/-- The host program is: the columns cut out, the SparseCore call, the pipelined call, the scalar read off. -/
theorem main_eq (d : Dev nD) : main (F := F) d = StableHlo.seq ops0 >>= fun _ => (K (F := F)).run d 0 >>= fun _ =>
    Prog.lift (.customCall (SparseCore.inner (Pipeline.entry 0)) ()) >>= fun _ => StableHlo.seq ops1 >>= fun _ => pure ⟨⟩ := by
  simp only [main, ops0, ops1, StableHlo.seq, bind_assoc, pure_bind]

/-- The operations before the calls touch unscoped buffers only. -/
theorem ops0_sub : ∀ op ∈ ops0 (F := F), op.bufs ⊆ ucRefs τ sig := by
  intro op h
  simp only [ops0, List.mem_cons, List.not_mem_nil, or_false] at h
  rcases h with rfl | rfl | rfl | rfl
  exacts [Pipeline.sub_ucRefs _ (StableHlo.unary_bufs_sub ..), Pipeline.sub_ucRefs _ (StableHlo.reshape_bufs_sub ..),
    Pipeline.sub_ucRefs _ (StableHlo.unary_bufs_sub ..), Pipeline.sub_ucRefs _ (StableHlo.reshape_bufs_sub ..)]
/-- The operation after the calls touches unscoped buffers only. -/
theorem ops1_sub : ∀ op ∈ ops1 (F := F), op.bufs ⊆ ucRefs τ sig := by
  intro op h
  simp only [ops1, List.mem_cons, List.not_mem_nil, or_false] at h
  rcases h with rfl
  exact Pipeline.sub_ucRefs _ (StableHlo.reshape_bufs_sub ..)
/-- The operations before the calls allocate nothing. -/
theorem ops0_fresh : ∀ op ∈ ops0 (F := F), op.fresh = ∅ := by
  intro op h
  simp only [ops0, List.mem_cons, List.not_mem_nil, or_false] at h
  rcases h with rfl | rfl | rfl | rfl <;> rfl
/-- The operation after the calls allocates nothing. -/
theorem ops1_fresh : ∀ op ∈ ops1 (F := F), op.fresh = ∅ := by
  intro op h
  simp only [ops1, List.mem_cons, List.not_mem_nil, or_false] at h
  rcases h with rfl
  rfl

/-! ## What the buffers hold along the run -/

section Run

variable (m : (ℓ : Loc nD τ sig) → Buf (Elt F) ℓ)

/-- At the launch, and after the columns are cut out. -/
def V0 (d : Dev nD) : Valuation τ sig (Elt F) := fun b => m (d, b)
/-- After the columns are cut out. -/
def V1 (d : Dev nD) : Valuation τ sig (Elt F) := StableHlo.after ops0 (V0 m d)
/-- The two index columns. -/
def xiOf (d : Dev nD) : Buf (Elt F) (xiLoc d) := V1 m d main_v1
/-- The second index column. -/
def yiOf (d : Dev nD) : Buf (Elt F) (yiLoc d) := V1 m d main_v3
/-- After the SparseCore call: the four results hold the gathered rows. -/
def V2 (d : Dev nD) : Valuation τ sig (Elt F) :=
  Function.update (Function.update (Function.update (Function.update (V1 m d)
    (main_v4_0 : DevRef τ sig) (rowsOf (m (xLoc d)) (xiOf m d))) (main_v4_1 : DevRef τ sig) (rowsOf (m (yLoc d)) (yiOf m d)))
    (main_v4_2 : DevRef τ sig) (rowsOf (m (yLoc d)) (xiOf m d))) (main_v4_3 : DevRef τ sig) (rowsOf (m (xLoc d)) (yiOf m d))
/-- The same, by the core's own references. -/
def V2r (c : Dev nD) (b : Ref sig .tc) : Buf (Elt F) ((c : Thread nD τ).loc b) := V2 m c b
/-- After the pipelined call: its result's buffer holds what the last point stores. -/
def V3 (d : Dev nD) : Valuation τ sig (Elt F) :=
  Function.update (V2 m d) (main_v5 : DevRef τ sig) (outS (stN (V2r m) d 25))
/-- At the end. -/
def V4 (d : Dev nD) : Valuation τ sig (Elt F) := StableHlo.after ops1 (V3 m d)

/-- Cutting the columns out changes only the four buffers it writes. -/
theorem V1_ne (d : Dev nD) (b : Ref sig .tc) (h : b ∉ [main_v0, main_v1, main_v2, main_v3]) : V1 m d b = m (d, b) :=
  StableHlo.after_of_writes_sub ops0 (V0 m d) (W := [main_v0, main_v1, main_v2, main_v3])
    ⟨show ({(main_v0 : DevRef τ sig)} : Finset (DevRef τ sig)) ⊆ _ by decide, show ({(main_v1 : DevRef τ sig)} : Finset (DevRef τ sig)) ⊆ _ by decide,
      show ({(main_v2 : DevRef τ sig)} : Finset (DevRef τ sig)) ⊆ _ by decide, show ({(main_v3 : DevRef τ sig)} : Finset (DevRef τ sig)) ⊆ _ by decide⟩ h
/-- The SparseCore call changes only its four results. -/
theorem V2_ne (d : Dev nD) (b : DevRef τ sig) (h0 : b ≠ (main_v4_0 : DevRef τ sig)) (h1 : b ≠ (main_v4_1 : DevRef τ sig))
    (h2 : b ≠ (main_v4_2 : DevRef τ sig)) (h3 : b ≠ (main_v4_3 : DevRef τ sig)) : V2 m d b = V1 m d b := by
  unfold V2
  rw [Function.update_of_ne h3, Function.update_of_ne h2, Function.update_of_ne h1, Function.update_of_ne h0]
/-- The first result holds the rows of the first table that the first column names. -/
theorem V2_g0 (d : Dev nD) : V2 m d main_v4_0 = rowsOf (m (xLoc d)) (xiOf m d) := by
  unfold V2
  rw [Function.update_of_ne (by decide), Function.update_of_ne (by decide), Function.update_of_ne (by decide), Function.update_self]
/-- The second result holds the rows of the second table that the second column names. -/
theorem V2_g1 (d : Dev nD) : V2 m d main_v4_1 = rowsOf (m (yLoc d)) (yiOf m d) := by
  unfold V2
  rw [Function.update_of_ne (by decide), Function.update_of_ne (by decide), Function.update_self]
/-- The third result holds the rows of the second table that the first column names. -/
theorem V2_g2 (d : Dev nD) : V2 m d main_v4_2 = rowsOf (m (yLoc d)) (xiOf m d) := by
  unfold V2
  rw [Function.update_of_ne (by decide), Function.update_self]
/-- The fourth result holds the rows of the first table that the second column names. -/
theorem V2_g3 (d : Dev nD) : V2 m d main_v4_3 = rowsOf (m (xLoc d)) (yiOf m d) := by
  unfold V2
  rw [Function.update_self]
/-- The pipelined call leaves the last point's value in its result. -/
theorem V3_out (d : Dev nD) : V3 m d main_v5 = outS (stN (V2r m) d 25) := Function.update_self ..
/-- The pipelined call changes only its result. -/
theorem V3_ne (d : Dev nD) (b : Ref sig .tc) (h : b ≠ main_v5) : V3 m d b = V2 m d b :=
  Function.update_of_ne (fun e => h (Proc.devRef_injective .tc e)) ..
/-- The last operation changes only the scalar. -/
theorem V4_ne (d : Dev nD) (b : Ref sig .tc) (h : b ≠ main_v6) : V4 m d b = V3 m d b :=
  StableHlo.after_of_writes_sub ops1 (V3 m d) (W := [main_v6])
    (show ({(main_v6 : DevRef τ sig)} : Finset (DevRef τ sig)) ⊆ _ by decide) (by simpa using h)
/-- At the end the scalar is the last point's value. -/
theorem V4_out (d : Dev nD) : V4 m d main_v6 = shapeCast (α := F .f32) S_ (outS (stN (V2r m) d 25)) shapeCasts_S1x1_S_ := by
  rw [← V3_out]
  show StableHlo.after ops1 (V3 m d) (Proc.devRef .tc main_v6) = _
  unfold ops1
  after_results
  rfl
/-- At the end a buffer the program does not write is as at the launch. -/
theorem V4_arg (d : Dev nD) (b : Ref sig .tc) (h : b ∉ [main_v0, main_v1, main_v2, main_v3, main_v4_0, main_v4_1, main_v4_2, main_v4_3, main_v5, main_v6]) :
    V4 m d b = m (d, b) := by
  simp only [List.mem_cons, List.not_mem_nil, or_false, not_or] at h
  obtain ⟨h0, h1, h2, h3, h4, h5, h6, h7, h8, h9⟩ := h
  have inj : ∀ b', b ≠ b' → (b : DevRef τ sig) ≠ (b' : DevRef τ sig) := fun b' hb e => hb (Proc.devRef_injective .tc e)
  rw [V4_ne m d b h9, V3_ne m d b h8, V2_ne m d b (inj _ h4) (inj _ h5) (inj _ h6) (inj _ h7),
    V1_ne m d b (by simp only [List.mem_cons, List.not_mem_nil, or_false, not_or]; exact ⟨h0, h1, h2, h3⟩)]
/-- After the SparseCore call a buffer not yet written is as at the launch. -/
theorem V2_arg (d : Dev nD) (b : Ref sig .tc) (h : b ∉ [main_v0, main_v1, main_v2, main_v3, main_v4_0, main_v4_1, main_v4_2, main_v4_3]) :
    V2 m d b = m (d, b) := by
  simp only [List.mem_cons, List.not_mem_nil, or_false, not_or] at h
  obtain ⟨h0, h1, h2, h3, h4, h5, h6, h7⟩ := h
  have inj : ∀ b', b ≠ b' → (b : DevRef τ sig) ≠ (b' : DevRef τ sig) := fun b' hb e => hb (Proc.devRef_injective .tc e)
  rw [V2_ne m d b (inj _ h4) (inj _ h5) (inj _ h6) (inj _ h7),
    V1_ne m d b (by simp only [List.mem_cons, List.not_mem_nil, or_false, not_or]; exact ⟨h0, h1, h2, h3⟩)]

/-! ## The SparseCore call's buffers among the host's -/

/-- The eight buffers of the SparseCore call. -/
def callRefs : Finset (DevRef τ sig) :=
  {(main_v1 : DevRef τ sig), (main_v3 : DevRef τ sig), (main_arg0 : DevRef τ sig), (main_arg1 : DevRef τ sig),
   (main_v4_0 : DevRef τ sig), (main_v4_1 : DevRef τ sig), (main_v4_2 : DevRef τ sig), (main_v4_3 : DevRef τ sig)}
/-- Those eight buffers are unscoped. -/
theorem callRefs_sub : callRefs ⊆ ucRefs τ sig := by
  intro b hb
  simp only [callRefs, Finset.mem_insert, Finset.mem_singleton] at hb
  rcases hb with rfl | rfl | rfl | rfl | rfl | rfl | rfl | rfl <;>
    exact Finset.mem_filter.mpr ⟨StableHlo.devRef_mem_tcRefs _, by decide⟩

/-- Those eight buffers held are the eight claims, one by one. -/
theorem held_call (d : Dev nD) (V : Valuation τ sig (Elt F)) :
    (StableHlo.held (d.tc : Thread nD τ) callRefs V : sProp 𝕄)
      = iprop((xiLoc d ↦{fullShare} V main_v1) ∗ (yiLoc d ↦{fullShare} V main_v3) ∗ (xLoc d ↦{fullShare} V main_arg0) ∗ (yLoc d ↦{fullShare} V main_arg1)
        ∗ (g0Loc d ↦{fullShare} V main_v4_0) ∗ (g1Loc d ↦{fullShare} V main_v4_1) ∗ (g2Loc d ↦{fullShare} V main_v4_2) ∗ (g3Loc d ↦{fullShare} V main_v4_3)) := by
  unfold StableHlo.held callRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Before the call, the unscoped buffers are what its cores take and the rest. -/
theorem before_call (d : Dev nD) :
    (StableHlo.held (d.tc : Thread nD τ) (ucRefs τ sig) (StableHlo.after ops0 (V0 m d)) : sProp 𝕄)
      ⊢ iprop((bigSep Finset.univ fun c : Fin ((K (F := F)).nCore 0) => (P m (xiOf m) (yiOf m)).st 0 d c)
          ∗ StableHlo.held (d.tc : Thread nD τ) (ucRefs τ sig \ callRefs) (V1 m d)) := by
  rw [show StableHlo.after ops0 (V0 m d) = V1 m d from rfl, StableHlo.held_sub_split _ callRefs_sub, held_call, deal,
    V1_ne m d main_arg0 (by decide), V1_ne m d main_arg1 (by decide), V1_ne m d main_v4_0 (by decide), V1_ne m d main_v4_1 (by decide),
    V1_ne m d main_v4_2 (by decide), V1_ne m d main_v4_3 (by decide)]
  exact BI.Entails.refl _

/-- After the call, what its cores bring back and the rest are the unscoped buffers. -/
theorem after_call (d : Dev nD) :
    iprop((bigSep Finset.univ fun c : Fin ((K (F := F)).nCore 0) => (P m (xiOf m) (yiOf m)).dn 0 d c)
          ∗ StableHlo.held (d.tc : Thread nD τ) (ucRefs τ sig \ callRefs) (V1 m d))
      ⊢ (StableHlo.held (d.tc : Thread nD τ) (ucRefs τ sig) (V2 m d) : sProp 𝕄) := by
  have hr : (StableHlo.held (d.tc : Thread nD τ) (ucRefs τ sig \ callRefs) (V1 m d) : sProp 𝕄)
      = StableHlo.held (d.tc : Thread nD τ) (ucRefs τ sig \ callRefs) (V2 m d) := by
    refine StableHlo.held_congr _ fun b hb => (V2_ne m d b ?_ ?_ ?_ ?_).symm <;>
      · rintro rfl; exact (Finset.mem_sdiff.mp hb).2 (by decide)
  rw [hr, StableHlo.held_sub_split _ callRefs_sub (V2 m d), held_call, deal, V2_g0, V2_g1, V2_g2, V2_g3,
    V2_ne m d main_v1 (by decide) (by decide) (by decide) (by decide), V2_ne m d main_v3 (by decide) (by decide) (by decide) (by decide),
    V2_arg m d main_arg0 (by decide), V2_arg m d main_arg1 (by decide)]
  exact BI.Entails.refl _

end Run

end Cert.Proof.IdealRun
end
-- ==== Proof.IdealLaunch.lean ====
/- The launch: the ghost state it starts from, the host program's steps one after another, and the run of the whole
   program, which ends with every argument unchanged, the result the last point's value and every semaphore at zero. -/
module

public import proofs.«01_k».proof.Proof.IdealMain

@[expose] public section

set_option maxRecDepth 16384

noncomputable section

namespace Cert.Proof.IdealRun

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Run

variable (m : (ℓ : Loc nD τ sig) → Buf (Elt F) ℓ)

/-! ## The launch's ghost state -/

variable (F) in
/-- The pipeline's configurations, as the program's definitions carry them. -/
abbrev adm₀ : (p : Fin 1) → (pcfgs (F := F) p).Adm := fun q => (cfgs q).toPCfg_adm
/-- The pipelines, with their staging cells fixed. -/
abbrev PC := Pipeline.pin (pcfgs (F := F)) (adm₀ F)
/-- Fixing the cells gives the pipelines' own configurations. -/
theorem pin_eq : PC (F := F) = cfgs := rfl
/-- Distinct staging cells of the pipelines are distinct semaphores. -/
theorem pin_inj : Function.Injective (Pipeline.cellOf (nD := nD) (τ := τ) (PC (F := F))) := by
  rw [pin_eq]; exact Cert.KernelIdeal.Gen.cellOf_inj

/-- The pipeline's staging cells and tokens of a device. -/
def G (d : Dev nD) : sProp 𝕄 := iprop(Pipeline.cellsGhost (PC (F := F)) EP 0 d ∗ Pipeline.toksInit (PC (F := F)) EP 0 d)

variable (F) in
/-- The launch element: the handshakes', the pipeline's, no counter yet. -/
def u₀ : UU := (initOf (K (F := F)).hsCells (K (F := F)).hsToks,
  (initOf (Pipeline.cells (PC (F := F)) pin_inj) (Pipeline.launchToks (PC (F := F)) pin_inj), 1))

omit [FloatOps F] in
/-- Any number of empty claims is the empty claim. -/
theorem bigSep_nothing {I : Type} (s : Finset I) : (bigSep s fun _ => iprop(emp)) = (iprop(emp) : sProp 𝕄) := bigSep_emp_const s

/-- The launch element is the handshakes' first state, each device's pipeline cells and tokens, and nothing for the tiles. -/
theorem hu₀ : (ownU (u₀ F) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (xiOf m) (yiOf m)).x q thr) := by
  unfold u₀
  iintro Hu
  ihave H := (ownU_pair (initOf (K (F := F)).hsCells (K (F := F)).hsToks)
    ((initOf (Pipeline.cells (PC (F := F)) pin_inj) (Pipeline.launchToks (PC (F := F)) pin_inj), (1 : Counters)) : UP × Counters)) $$ Hu
  icases H with ⟨HH, HP⟩
  ihave HP' := (own_pair_emb (embR : Emb (UP × Counters) (MT nD τ sig (HIx 1) (Elt F) ℕ UU ℕ))
    (initOf (Pipeline.cells (PC (F := F)) pin_inj) (Pipeline.launchToks (PC (F := F)) pin_inj)) (1 : Counters)) $$ HP
  icases HP' with ⟨HP, -⟩
  imod (Pipeline.fund_ghost (PC (F := F)) (EP (F := F)) pin_inj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (PC (F := F)) EP 0 d : sProp 𝕄)
          = bigSep Finset.univ fun c : Dev nD => bigSep Finset.univ fun p => Pipeline.cellsGhost (PC (F := F)) EP p c from
        bigSep_congr fun d _ => (bigSep_univ_of_subsingleton (Φ := fun p : Fin 1 => (Pipeline.cellsGhost (PC (F := F)) EP p d : sProp 𝕄)) (0 : Fin 1)).symm]
      iexact Hg
    · rw [show (bigSep Finset.univ fun d : Dev nD => Pipeline.toksInit (PC (F := F)) EP 0 d : sProp 𝕄)
          = bigSep Finset.univ fun c : Dev nD => bigSep Finset.univ fun p => Pipeline.toksInit (PC (F := F)) EP p c from
        bigSep_congr fun d _ => (bigSep_univ_of_subsingleton (Φ := fun p : Fin 1 => (Pipeline.toksInit (PC (F := F)) EP p d : sProp 𝕄)) (0 : Fin 1)).symm]
      iexact Ht
  rw [show (bigSep Finset.univ fun thr : Thread nD τ => bigSep Finset.univ fun q : Fin 1 => (P m (xiOf m) (yiOf m)).x q thr : sProp 𝕄) = bigSep Finset.univ fun _ => iprop(emp) from
    bigSep_congr fun _ _ => bigSep_univ_of_subsingleton (0 : Fin 1), bigSep_nothing]
  iempintro

/-! ## The host program -/

variable (ρ : Dev nD → PrngReg)

/-- What a device's buffers hold at the end. -/
abbrev FIN (d : Dev nD) : sProp 𝕄 := StableHlo.held (d.tc : Thread nD τ) (ucRefs τ sig) (V4 m d)

/-- The pipelined call's step, at the contents the SparseCore call leaves. -/
def seg : Pipeline.RegionSeg (pcfgs (F := F)) (adm₀ F) (pdats (V2r m) (adm₀ F)) none defs₀ 𝒱₀
    (K (F := F)).L (K (F := F)).lev 0 :=
  reg (V2r m) (adm₀ F) (fun c b => V3 m c b) (fun _ => iprop(emp)) (fun c => V3_out m c) (fun c b h => V3_ne m c b h)

/-- The unscoped buffers of a device at the launch are those buffers held at the launch's contents. -/
theorem launch_held (d : Dev nD) : (unscopedBufs d (fun b => m ((SparseCore.T d).loc b)) : sProp 𝕄) ⊢ StableHlo.held (d.tc : Thread nD τ) (ucRefs τ sig) (V0 m d) :=
  Entails.of_eq (Pipeline.unscopedBufs_held d (V0 m d))

/-- What the pipelined call is entered with: the unscoped buffers after the SparseCore call, and nothing owed. -/
theorem seg_pre (c : Dev nD) : (seg m).pre c = iprop(unscopedBufs c (V2r m c) ∗ emp ∗ ∃ W, ⌜(K (F := F)).WBelow (c : Thread nD τ) W 8⌝ ∗ owes (c : Thread nD τ) (0 : CellTallies nD τ sig (HIx 1)) W) := rfl
/-- What the pipelined call is left with: the unscoped buffers after it, and nothing owed. -/
theorem seg_post (c : Dev nD) : (seg m).post c = iprop(unscopedBufs c (fun b => V3 m c b) ∗ emp ∗ ∃ W, ⌜(K (F := F)).WBelow (c : Thread nD τ) W 8⌝ ∗ owes (c : Thread nD τ) (0 : CellTallies nD τ sig (HIx 1)) W) := rfl

/-- The pipelined call's program, on its own labels. -/
def entryProg (d : Dev nD) : Prog (TpuEff nD τ sig (Elt F) (ΛP (F := F)) (SparseCore.T d : Thread nD τ).2) PUnit :=
  Prog.op (.customCall (Pipeline.entry (0 : Fin 1)) ()) fun _ => .ret ⟨⟩

/-- The host's call of the pipeline is the pipeline's entry carried to the host's labels. -/
theorem lift_entry (d : Dev nD) :
    (Prog.lift (.customCall (SparseCore.inner (Pipeline.entry 0)) ()) :
        Prog (TpuEff nD τ sig (Elt F) (SparseCore.Sig (ΛP (F := F)) 1) (SparseCore.T d : Thread nD τ).2) PUnit)
      = SparseCore.liftProg (entryProg d) := rfl

/-- The pipeline's rounds lie in the user part of the ghost state. -/
instance EP_lands : (EP (F := F)).LandsIn (upEmb : UEmb _ (MT nD τ sig (HIx 1) (Elt F) ℕ UU ℕ)) := inferInstance

/-- The pipelined call entered on its own program's labels. -/
theorem region_raw [∀ e, Nonempty (Elt F e)] (d : Dev nD) (Q : PUnit → sProp 𝕄) :
    iprop((iprop(boundary (d.tc : Thread nD τ) ∗ (seg m).post d) -∗ wp frame (wpE (D (F := F)) 𝒱 (SparseCore.T d) none) Set.univ (.ret ⟨⟩) Q)
        ∗ boundary (d.tc : Thread nD τ) ∗ (seg m).pre d ∗ levAts (K (F := F)).L (K (F := F)).lev ∗ G d)
      ⊢ wp frame (wpE (D (F := F)) 𝒱 (SparseCore.T d) none) Set.univ (entryProg d) Q := by
  have h := Pipeline.RegionSeg.wp (pcfgs (F := F)) (adm₀ F) (pdats (V2r m) (adm₀ F)) none
    pin_inj EP defs₀ 𝒱₀ (K (F := F)).L (K (F := F)).lev (seg m) d none (fun u hu => by cases hu) (fun _ => .ret ⟨⟩) Q
  unfold G
  exact h

/-- The pipelined call as the host program's step. -/
theorem region_step [∀ e, Nonempty (Elt F e)] (d : Dev nD) (Q : PUnit → sProp 𝕄) :
    iprop((iprop(boundary (d.tc : Thread nD τ) ∗ (seg m).post d) -∗ Q ⟨⟩) ∗ boundary (d.tc : Thread nD τ) ∗ (seg m).pre d
        ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  rw [lift_entry d]
  have h1 : wp frame (wpE (D (F := F)) 𝒱 (SparseCore.T d) none) Set.univ (entryProg d) Q
      ⊢ wp frame (wpE ((K (F := F)).defs (D (F := F))) 𝒱 (SparseCore.T d) none) Set.univ (SparseCore.liftProg (entryProg d)) Q :=
    (K (F := F)).wp_liftProg (D (F := F)) 𝒱 (SparseCore.T d) Set.univ none (entryProg d) Q
  iintro ⟨Hk, Hb, Hp, Hl, Hg⟩
  iapply h1
  iapply (region_raw m d Q) $$ [Hk Hb Hp Hl Hg]
  isplitl [Hk]
  · iintro H
    rw [wp_ret]; imodintro
    iapply Hk; iexact H
  isplitl [Hb]; · iexact Hb
  isplitl [Hp]; · iexact Hp
  isplitl [Hl] <;> iassumption

set_option maxHeartbeats 1000000 in
/-- The host program on device `d`: entered with the launch's memory, it ends with every buffer at its last contents. -/
theorem hmain [∀ e, Nonempty (Elt F e)] (κ : GSem nD τ sig → ℕ) (d : Dev nD) :
    iprop((K (F := F)).ctx EH (P m (xiOf m) (yiOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hub, Hts, -⟩, Hg⟩
  ihave Hh := (launch_held m d) $$ Hub
  iapply (StableHlo.wp_seq 𝒱 none Set.univ d (ucRefs τ sig) _ ops0 ops0_sub ops0_fresh (V0 m d)) $$ [Hb Hh]
  · isplitl [Hb]; · iexact Hb
    iexact Hh
  iintro ⟨Hb, Hh⟩
  ihave Hh' := (before_call m d) $$ Hh
  icases Hh' with ⟨Hc, Hr⟩
  rw [wp_bind]
  iapply ((K (F := F)).wp_run (D (F := F)) 𝒱 (EH := EH) (P := P m (xiOf m) (yiOf m)) κ d 0) $$ [Hst Hc Hr Hb Hts Hg]
  isplitr; · iexact Hctx
  isplitl [Hst]; · iexact Hst
  isplitl [Hc]; · iexact Hc
  iintro ⟨Hst, Hdn⟩
  ihave Hh := (after_call m d) $$ [Hdn Hr]
  · isplitl [Hdn] <;> iassumption
  ihave Hub := (Entails.of_eq (Pipeline.unscopedBufs_held d (V2 m d)).symm) $$ Hh
  unfold SparseCore.Cfg.tcSt
  rw [show (0 : Fin 1).val + 1 = 1 from rfl, (K (F := F)).Otc_end d (le_refl 1)]
  icases Hst with ⟨HO, Hst⟩
  rw [wp_bind]
  iapply (region_step m d _) $$ [Hb Hub HO Hg Hst Hts]
  isplitl [Hst Hts]
  · rw [seg_post]
    iintro ⟨Hb, Hub, -, HO⟩
    ihave Hh := (Entails.of_eq (Pipeline.unscopedBufs_held d (V3 m d))) $$ Hub
    iapply (StableHlo.wp_seq 𝒱 none Set.univ d (ucRefs τ sig) _ ops1 ops1_sub ops1_fresh (V3 m d)) $$ [Hb Hh]
    · isplitl [Hb]; · iexact Hb
      iexact Hh
    iintro ⟨Hb, Hh⟩
    rw [wp_pure]; imodintro
    isplitl [HO Hst]
    · isplitl [HO]; · iexact HO
      iexact Hst
    isplitl [Hh]; · iexact Hh
    isplitl [Hb] <;> iassumption
  isplitl [Hb]; · iexact Hb
  isplitl [Hub HO]
  · rw [seg_pre]
    isplitl [Hub]; · iexact Hub
    isplitr; · iempintro
    iexact HO
  isplitr; · iapply ((K (F := F)).ctx_levAts κ); iexact Hctx
  iexact Hg

/-! ## The run -/

/-- A final state holds every unscoped buffer of device `d` at its last contents. -/
def fq (d : Dev nD) (s' : Phys nD τ sig (Elt F)) : Prop := ∀ b ∈ ucRefs τ sig, s'.mem.mem ((d, b) : Loc nD τ sig) = V4 m d b

/-- What a device holds at the end, with the state it describes, gives the final contents. -/
theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) (ucRefs τ sig) (fun b => ((d, b) : Loc nD τ sig)) (fun b => V4 m d b) s'
  have h' : iprop(FIN m d ∗ SI s') ⊢ iprop(⌜fq m d s'⌝ ∗ SI s' : sProp 𝕄) := h
  iintro H
  ihave H' := h' $$ H
  icases H' with ⟨%h, -⟩
  ipureintro; exact h

/-- From any memory whose index columns name rows, with every counter at zero, every run of the program ends with every
    buffer of each device's TensorCore at its last contents and every counter back at zero. -/
theorem run_all [∀ e, Nonempty (Elt F e)] (hpre : InRange (xiOf m) (yiOf m)) :
    θ_run (Cert.KernelIdeal.defs (F := F)) (Cert.KernelIdeal.threads (F := F)) ⟨m, fun _ => 0, ρ⟩
      (fun r => (∀ d : Dev nD, ∀ b ∈ ucRefs τ sig, r.2.mem ((d, b) : Loc nD τ sig) = V4 m d b) ∧ r.2.sem = fun _ => 0) :=
  SparseCore.Cfg.θ_run_sc_quiescent (K := K (F := F)) (D := D (F := F)) (𝒱 := 𝒱) (EH := EH) (P := P m (xiOf m) (yiOf m)) (A := ∅) facts v₀
    (fun q hq => match q with | 0 => nomatch hq)
    (fun q _ => match q with | 0 => tileObl m (xiOf m) (yiOf m) facts hpre)
    (fun q _ => match q with | 0 => SparseCore.Cfg.VecSplit.of_plain (vecSplit m (xiOf m) (yiOf m)))
    m ρ main (fun d => G d) (FIN m) (u₀ F) (sep_elim_left.trans (hu₀ m)) (hmain m ρ) (fq m) (hfin m) _ (fun _ h hz => ⟨h, hz⟩)

/-- A buffer with no scope is among the unscoped ones. -/
theorem mem_uc (b : Ref sig .tc) (h : ¬ b.isScoped) : (b : DevRef τ sig) ∈ ucRefs τ sig :=
  Finset.mem_filter.mpr ⟨StableHlo.devRef_mem_tcRefs _, h⟩

end Run

end Cert.Proof.IdealRun
end
-- ==== Proof.IdealFrame.lean ====
/- The index columns read off the index pairs, the precondition's range on them, and the program's frame. -/
module

public import proofs.«01_k».proof.Proof.IdealLaunch

@[expose] public section

set_option maxRecDepth 16384

noncomputable section

namespace Cert.Proof.IdealRun

open Cert.KernelIdeal Cert.KernelIdeal.Gen
open Idealize.ShloMosaic Idealize.ShloMosaic.TcCoe
open Idealize.ShloMosaic.Pipeline (ucRefs)
open Idealize.SL.Sem

variable {F : FTy → Type} [FloatOps F]
variable (m : (ℓ : Loc nD τ sig) → Buf (Elt F) ℓ) (ρ : Dev nD → PrngReg)

/-- The first index column is the first column of the index pairs. -/
theorem xiOf_eq (d : Dev nD) : xiOf m d = shapeCast (α := BitVec 32) S1024
    (extractStridedSlice S1024x1 ![0, 0] (m ((d.tc : Thread nD τ).loc main_arg10)) slices_S1024x2_S1024x1_0_0) shapeCasts_S1024x1_S1024 := by
  show StableHlo.after ops0 (V0 m d) (Proc.devRef .tc main_v1) = _
  unfold ops0
  after_results
  rfl
/-- The second index column is the second column of the index pairs. -/
theorem yiOf_eq (d : Dev nD) : yiOf m d = shapeCast (α := BitVec 32) S1024
    (extractStridedSlice S1024x1 ![0, 1] (m ((d.tc : Thread nD τ).loc main_arg10)) slices_S1024x2_S1024x1_0_1) shapeCasts_S1024x1_S1024 := by
  show StableHlo.after ops0 (V0 m d) (Proc.devRef .tc main_v3) = _
  unfold ops0
  after_results
  rfl

/-- The index columns name rows when every index of the pairs does. -/
theorem inRange_of (h : ∀ (d : Dev nD) (j : S1024x2.Idx), ((m ((d.tc : Thread nD τ).loc main_arg10) : S1024x2.Idx → BitVec 32) j).toNat < 100000) :
    InRange (xiOf m) (yiOf m) := by
  intro d j
  rw [xiOf_eq, yiOf_eq]
  exact ⟨h d _, h d _⟩

/-- A word from 0 to 99999, both bounds signed, is below 100000. -/
theorem range_word (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Where every buffer is at its last contents, a buffer the program does not write is as at the launch. -/
theorem args_kept (s : MemSt nD τ sig (Elt F)) (h : ∀ d : Dev nD, ∀ b ∈ ucRefs τ sig, s.mem ((d, b) : Loc nD τ sig) = V4 m d b) (c : Dev nD)
    (b : Ref sig .tc) (hs : ¬ b.isScoped)
    (hb : b ∉ [main_v0, main_v1, main_v2, main_v3, main_v4_0, main_v4_1, main_v4_2, main_v4_3, main_v5, main_v6]) :
    s.mem ((c.tc : Thread nD τ).loc b) = m ((c.tc : Thread nD τ).loc b) :=
  (h c (b : DevRef τ sig) (mem_uc b hs)).trans (V4_arg m c b hb)

/-- The program's run: every argument unchanged, the result the last point's value, every counter at zero. -/
theorem run_value [∀ e, Nonempty (Elt F e)] (hpre : InRange (xiOf m) (yiOf m)) :
    θ_run (Cert.KernelIdeal.defs (F := F)) (Cert.KernelIdeal.threads (F := F)) ⟨m, fun _ => 0, ρ⟩
      (fun r => (∀ c : Dev nD,
        r.2.mem ((c.tc : Thread nD τ).loc main_v6) = shapeCast (α := F .f32) S_ (outS (stN (V2r m) c 25)) shapeCasts_S1x1_S_
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) ∧ r.2.sem = fun _ => 0) :=
  (θ_run _ _ _).mono (fun r h => ⟨fun c => by
    refine ⟨(h.1 c (main_v6 : DevRef τ sig) (mem_uc main_v6 (by decide))).trans (V4_out m c), ?_⟩
    refine ⟨?_, ?_, ?_, ?_, ?_, ?_, ?_, ?_, ?_, ?_, ?_, ?_, ?_⟩ <;> exact args_kept m r.2 h.1 c _ (by decide) (by decide), h.2⟩) (run_all m ρ hpre)

end Cert.Proof.IdealRun
end
-- ==== Proof.Frames.lean ====
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run
public import proofs.«01_k».proof.Proof.Gen.Pre_index_map_in_range

/-! What the index precondition says of a memory, and the frames of the kernel, of its idealization and of the
    idealized reference. -/

@[expose] public section

set_option maxRecDepth 16384

noncomputable section

namespace Cert.Proof

open Idealize.ShloMosaic Idealize.SL.Sem

/-- The kernel's index precondition bounds every entry of the index map. -/
theorem kernel_index_lt (m : (ℓ : Loc Cert.Kernel.nD Cert.Kernel.τ Cert.Kernel.sig) → Buf (Elt Bits) ℓ)
    (h : Pre_Kernel m) : ∀ (d : Dev Cert.Kernel.nD) j, (m ((d.tc : Thread Cert.Kernel.nD Cert.Kernel.τ).loc Cert.Kernel.main_arg10) j).toNat < 100000 := by
  intro d j
  have e := congrFun (h d) j
  simp only [Cert.Pre_index_map_in_range.fn, andi, cmpi, broadcastInDim, constantI] at e
  exact KernelRun.range_word _ e

/-- The idealized kernel's index precondition bounds every entry of the index map. -/
theorem ideal_index_lt (m : (ℓ : Loc Cert.KernelIdeal.nD Cert.KernelIdeal.τ Cert.KernelIdeal.sig) → Buf (Elt Ideal) ℓ)
    (h : Pre_KernelIdeal m) : ∀ (d : Dev Cert.KernelIdeal.nD) j, (m ((d.tc : Thread Cert.KernelIdeal.nD Cert.KernelIdeal.τ).loc Cert.KernelIdeal.main_arg10) j).toNat < 100000 := by
  intro d j
  have e := congrFun (h d) j
  simp only [Cert.Pre_index_map_in_range.fn, andi, cmpi, broadcastInDim, constantI] at e
  exact IdealRun.range_word _ e

/-- The kernel ends with its arguments unchanged and every counter at zero. -/
theorem frame_kernel : quiescent_Kernel := by
  intro m g h
  exact (θ_run _ _ _).mono (fun _ hr => ⟨fun c => (hr.1 c).2, hr.2⟩)
    (KernelRun.run_value m g (KernelRun.inRange_of m (kernel_index_lt m h)))

/-- The idealized kernel ends with its arguments unchanged and every counter at zero. -/
theorem frame_ideal : quiescent_KernelIdeal := by
  intro m g h
  exact (θ_run _ _ _).mono (fun _ hr => ⟨fun c => (hr.1 c).2, hr.2⟩)
    (IdealRun.run_value m g (IdealRun.inRange_of m (ideal_index_lt m h)))

/-- The idealized reference ends with its arguments unchanged; it declares no semaphore. -/
theorem frame_reference : quiescent_ReferenceIdeal := by
  intro m g _
  exact (θ_run _ _ _).mono (fun r hr => ⟨fun c => (hr c).2, Idealize.ShloMosaic.sem_eq_zero_of_no_sems (by decide) r.2⟩)
    (Cert.ReferenceIdeal.Value.run (F := Ideal) m g)

end Cert.Proof

end
-- ==== Proof.LossPay.lean ====
/- The idealized kernel's arithmetic read at an index: each value that the TensorCore call computes, as sums, minima and
   roots of extended reals over the rows it is given. -/
module

public import proofs.«01_k».proof.Proof.IdealBody
public import Idealize.ShloMosaic.Lib.Pointwise

@[expose] public section

set_option maxRecDepth 16384

noncomputable section

namespace Cert.Proof.Loss

open Idealize.ShloMosaic

/-- A table of extended reals. -/
abbrev Tab (r c : ℕ) := (⟨2, ![r, c]⟩ : Shape).Idx → EReal

/-- A row of 128 entries. -/
abbrev Row := Fin 128 → EReal

/-- One row of a table. -/
def row {n : ℕ} (t : Tab n 128) (i : Fin n) : Row := fun k => t (ix2 i k)

/-- A two-layer network without biases, at one row. -/
def mlp (w1 : Tab 128 100) (w2 : Tab 100 128) (r : Row) : Row :=
  fun k => ∑ h : Fin 100, max (∑ i : Fin 128, r i * w1 (ix2 i h)) 0 * w2 (ix2 h k)

/-- A row's squared norm. -/
def nrm (r : Row) : EReal := ∑ k, r k * r k

/-- The product of two rows. -/
def dotp (r s : Row) : EReal := ∑ k, r k * s k

/-- The squared distance of two rows. -/
def sqd (r s : Row) : EReal := ∑ k, (r k - s k) * (r k - s k)

/-- The distance between a row and its image under one network and then the other. -/
def cyc (w1 : Tab 128 100) (w2 : Tab 100 128) (u1 : Tab 128 100) (u2 : Tab 100 128) (r : Row) : EReal :=
  Ideal.sqrt (sqd (mlp u1 u2 (mlp w1 w2 r)) r)

/-- Minus two, as the kernel spells it. -/
def neg2 : EReal := Ideal.ofBits .f32 0xC0000000#32

/-- Two, as the kernel spells it. -/
def pos2 : EReal := Ideal.ofBits .f32 0x40000000#32

/-- The kernel's tolerance. -/
def tol : EReal := Ideal.ofBits .f32 0x3C23D70A#32

/-- A target's squared norm less twice its product with the query, by the scaled query. -/
def cand (q t : Row) : EReal := nrm t + ∑ k, t k * (neg2 * q k)

/-- The same, by scaling the product. -/
def own (q t : Row) : EReal := nrm t - pos2 * dotp q t

/-- A distance's ceiling less its floor. -/
def gap (v : EReal) : EReal := Ideal.liftRound Int.ceil v - Ideal.liftRound Int.floor v

open Cert.KernelIdeal Cert.KernelIdeal.Gen

variable (X T : FVec Ideal S1024x128 .f32) (W1 : FVec Ideal S128x100 .f32) (W2 : FVec Ideal S100x128 .f32)
  (U1 : FVec Ideal S128x100 .f32) (U2 : FVec Ideal S100x128 .f32) (B : FVec Ideal S4000x128 .f32) (M D Q : FVec Ideal S1x1024 .f32)

/-- The first queries: the network of each row. -/
theorem pay4_apply (b : Fin 1024) (k : Fin 128) : k1_pay4 (F := Ideal) X W1 W2 (ix2 b k) = mlp W1 W2 (row X b) k := by
  pointwise [k1_pay4, mlp, row]

/-- The second queries: the network of each row. -/
theorem pay5_apply (b : Fin 1024) (k : Fin 128) : k1_pay5 (F := Ideal) X W1 W2 (ix2 b k) = mlp W1 W2 (row X b) k := by
  pointwise [k1_pay5, mlp, row]

/-- The first scaled queries: minus twice the network of each row. -/
theorem pay6_apply (b : Fin 1024) (k : Fin 128) : k1_pay6 (F := Ideal) X W1 W2 (ix2 b k) = neg2 * mlp W1 W2 (row X b) k := by
  rw [← pay4_apply]
  pointwise [k1_pay6, neg2]

/-- The second scaled queries: minus twice the network of each row. -/
theorem pay7_apply (b : Fin 1024) (k : Fin 128) : k1_pay7 (F := Ideal) X W1 W2 (ix2 b k) = neg2 * mlp W1 W2 (row X b) k := by
  rw [← pay5_apply]
  pointwise [k1_pay7, neg2]

/-- The first queries' squared norms. -/
theorem pay8_apply (b : Fin 1024) : k1_pay9 (F := Ideal) (k1_pay8 X W1 W2) (ix2 0 b) = nrm (mlp W1 W2 (row X b)) := by
  unfold nrm
  simp only [← pay4_apply]
  pointwise [k1_pay8, k1_pay9]

/-- The second queries' squared norms. -/
theorem pay10_apply (b : Fin 1024) : k1_pay10 (F := Ideal) (k1_pay5 X W1 W2) (ix2 0 b) = nrm (mlp W1 W2 (row X b)) := by
  unfold nrm
  simp only [← pay5_apply]
  pointwise [k1_pay10]

/-- Each first query's score against its own target. -/
theorem pay11_apply (b : Fin 1024) : k1_pay11 X T (ix2 0 b) = own (row X b) (row T b) := by
  pointwise [k1_pay11, own, nrm, dotp, row, pos2]

/-- Each second query's score against its own target. -/
theorem pay13_apply (b : Fin 1024) : k1_pay13 (k1_pay12 X T) (ix2 0 b) = own (row X b) (row T b) := by
  pointwise [k1_pay12, k1_pay13, own, nrm, dotp, row, pos2]

/-- The first queries' mean distance to their own targets. -/
theorem pay14_eq : k1_pay14 X T = Ideal.div (∑ b : Fin 1024, Ideal.sqrt (sqd (row X b) (row T b))) (Ideal.ofBits .f32 0x44800000#32) := by
  pointwise [k1_pay14, sqd, row]
  simp only [Fintype.sum_unique]

/-- The second queries' mean distance to their own targets. -/
theorem pay15_eq : k1_pay15 X T = Ideal.div (∑ b : Fin 1024, Ideal.sqrt (sqd (row X b) (row T b))) (Ideal.ofBits .f32 0x44800000#32) := by
  pointwise [k1_pay15, sqd, row]
  simp only [Fintype.sum_unique]

/-- The first running minimum starts at infinity. -/
theorem pay16_apply (b : Fin 1024) : k1_pay16 (F := Ideal) (ix2 0 b) = Ideal.ofBits .f32 0x7F800000#32 := by
  pointwise [k1_pay16]

/-- The second running minimum starts at infinity. -/
theorem pay17_apply (b : Fin 1024) : k1_pay17 (F := Ideal) (ix2 0 b) = Ideal.ofBits .f32 0x7F800000#32 := by
  pointwise [k1_pay17]

/-- A block's cycle distances added to the first running sum. -/
theorem pay22_eq (a : EReal) : k1_pay22 (F := Ideal) B W1 W2 U1 U2 a = a + ∑ r : Fin 4000, cyc W1 W2 U1 U2 (row B r) := by
  pointwise [k1_pay22, cyc, sqd, mlp, row]
  simp only [Fintype.sum_unique]

/-- A block's cycle distances added to the second running sum. -/
theorem pay25_eq (a : EReal) : k1_pay1 (F := Ideal) a (k1_pay25 B W1 W2 U1 U2) = a + ∑ r : Fin 4000, cyc W1 W2 U1 U2 (row B r) := by
  pointwise [k1_pay1, k1_pay25, cyc, sqd, mlp, row]
  simp only [Fintype.sum_unique]

/-- The first running minimum taken with the scores of a block. -/
theorem pay24_apply (b : Fin 1024) : k1_pay24 B (k1_pay23 B) X M (ix2 0 b)
    = min (M (ix2 0 b)) (Finset.univ.fold min (Ideal.ofBits .f32 0x7F800000#32) fun r : Fin 4000 => nrm (row B r) + ∑ k, B (ix2 r k) * X (ix2 b k)) := by
  pointwise [k1_pay23, k1_pay24, nrm, row]

/-- The second running minimum taken with the scores of a block. -/
theorem pay2_apply (b : Fin 1024) : k1_pay2 B X M (ix2 0 b)
    = min (M (ix2 0 b)) (Finset.univ.fold min (Ideal.ofBits .f32 0x7F800000#32) fun r : Fin 4000 => nrm (row B r) + ∑ k, B (ix2 r k) * X (ix2 b k)) := by
  pointwise [k1_pay2, nrm, row]

/-- The mean, over the 1024 queries, of the nearest distance's gap where the own target is not near enough. -/
def miss (Q M D : FVec Ideal S1x1024 .f32) : EReal :=
  Ideal.div (∑ b : Fin 1024, Scalar.select (Ideal.cmp .ole (D (ix2 0 b)) (M (ix2 0 b) + tol)) 0
    (gap (Ideal.sqrt (max (Q (ix2 0 b) + M (ix2 0 b)) 0)))) (Ideal.ofBits .f32 0x44800000#32)

/-- The mean gap over the mismatches, as the last point computes it. -/
theorem pay18_eq : k1_pay18 (F := Ideal) Q M D M = miss Q M D := by
  pointwise [k1_pay18, miss, gap, tol]
  simp only [Fintype.sum_unique]

/-- What the last point stores: the two cycle means, the two mean distances and the two mean gaps, added up. -/
theorem out_apply (s : IdealRun.St Ideal) : IdealRun.outS s IdealRun.o11
    = ((((Ideal.div (s.ax IdealRun.o11) (Ideal.ofBits .f32 0x47C35000#32) + Ideal.div (s.ay IdealRun.o11) (Ideal.ofBits .f32 0x47C35000#32))
      + s.sx IdealRun.o11) + miss s.qnx s.mx s.dsx) + s.sy IdealRun.o11) + miss s.qny s.my s.dsy := by
  rw [← pay18_eq]
  unfold IdealRun.outS
  pointwise [k1_pay3, k1_pay19, k1_pay20, k1_pay21, miss, gap, tol]
  simp only [Fintype.sum_unique]

end Cert.Proof.Loss

end
-- ==== Proof.LossGrid.lean ====
/- The idealized kernel's loss over its whole grid: the running sums and minima after the last point, over all rows of the
   two tables. -/
module

public import proofs.«01_k».proof.Proof.IdealRegion
public import proofs.«01_k».proof.Proof.LossPay
public import Idealize.ShloMosaic.Lib.Pipeline.ValueKit

@[expose] public section

set_option maxRecDepth 16384

noncomputable section

namespace Cert.Proof.Loss

open Idealize.ShloMosaic Idealize.ShloMosaic.TcCoe
open Cert.KernelIdeal Cert.KernelIdeal.Gen Cert.Proof.IdealRun

/-! ## Rows by tile -/

/-- Row `r` of tile `t`. -/
def tileRow (t : ℕ) (r : Fin 4000) : Fin 100000 := ⟨t % 25 * 4000 + r.val, by have := Nat.mod_lt t (by decide : 0 < 25); omega⟩

/-- A sum over the tiles' rows is the sum over all rows. -/
theorem sum_tiles (f : Fin 100000 → EReal) : ∑ t ∈ Finset.range 25, ∑ r : Fin 4000, f (tileRow t r) = ∑ i, f i := by
  rw [Finset.sum_range, ← Fintype.sum_prod_type']
  refine Fintype.sum_equiv (finProdFinEquiv (m := 25) (n := 4000)) _ _ fun p => ?_
  congr 1
  apply Fin.ext
  have := p.1.isLt
  simp only [tileRow, finProdFinEquiv, Equiv.coe_fn_mk]
  omega

/-- Every row lies in a tile. -/
theorem forall_tiles (P : Fin 100000 → Prop) : (∀ t < 25, ∀ r : Fin 4000, P (tileRow t r)) ↔ ∀ i, P i := by
  refine ⟨fun h i => ?_, fun h t _ r => h _⟩
  have e : tileRow (i.val / 4000) ⟨i.val % 4000, Nat.mod_lt _ (by decide)⟩ = i := by
    apply Fin.ext
    have := i.isLt
    simp only [tileRow]
    omega
  exact e ▸ h (i.val / 4000) (by have := i.isLt; omega) _

section Grid

variable (V : (c : Dev nD) → (b : Ref sig .tc) → Buf (Elt Ideal) ((c : Thread nD τ).loc b)) (c : Dev nD)

/-- At point `t` the first table's block is block `t`. -/
theorem index_0 : ∀ t : Fin cfg1.N, win1_0.index t = ![t.val, 0] :=
  (by decide +kernel : ∀ t : Fin grid1.N, win1_0.index t = ![t.val, 0])
/-- At point `t` the second table's block is block `t`. -/
theorem index_1 : ∀ t : Fin cfg1.N, win1_1.index t = ![t.val, 0] :=
  (by decide +kernel : ∀ t : Fin grid1.N, win1_1.index t = ![t.val, 0])

/-- A block of the first table, row by row. -/
theorem xb_row (n : ℕ) (r : Fin 4000) : row (xb V c n) r = row (n := 100000) (V c main_arg0) (tileRow n r) := by
  funext k
  unfold row xb
  rw [View.read_apply]
  refine congrArg (V c main_arg0) (funext fun a => Fin.ext ?_)
  refine (win1_0.rect_emb_val (ptAt n) (ix2 r k) a).trans ?_
  rw [index_0]
  fin_cases a
  · rfl
  · show 0 * 128 + k.val = k.val
    omega

/-- A block of the second table, row by row. -/
theorem yb_row (n : ℕ) (r : Fin 4000) : row (yb V c n) r = row (n := 100000) (V c main_arg1) (tileRow n r) := by
  funext k
  unfold row yb
  rw [View.read_apply]
  refine congrArg (V c main_arg1) (funext fun a => Fin.ext ?_)
  refine (win1_1.rect_emb_val (ptAt n) (ix2 r k) a).trans ?_
  rw [index_1]
  fin_cases a
  · rfl
  · show 0 * 128 + k.val = k.val
    omega

/-- What the first point initialises and no point changes stays as initialised. -/
theorem stN_fixed (n : ℕ) : (stN V c n).qx2 = (initS (opsV V c)).qx2 ∧ (stN V c n).qy2 = (initS (opsV V c)).qy2
    ∧ (stN V c n).qnx = (initS (opsV V c)).qnx ∧ (stN V c n).qny = (initS (opsV V c)).qny
    ∧ (stN V c n).dsx = (initS (opsV V c)).dsx ∧ (stN V c n).dsy = (initS (opsV V c)).dsy
    ∧ (stN V c n).sx = (initS (opsV V c)).sx ∧ (stN V c n).sy = (initS (opsV V c)).sy := by
  induction n with
  | zero => exact ⟨rfl, rfl, rfl, rfl, rfl, rfl, rfl, rfl⟩
  | succ n ih => exact ih

/-- The first cycle sum before point `n`. -/
theorem ax_eq (n : ℕ) : (stN V c n).ax o11 = ∑ t ∈ Finset.range n, ∑ r : Fin 4000,
    cyc (V c main_arg2) (V c main_arg4) (V c main_arg6) (V c main_arg8) (row (n := 100000) (V c main_arg0) (tileRow t r)) := by
  induction n with
  | zero => exact Ideal.ofBits_zero_f32
  | succ n ih =>
    rw [Finset.sum_range_succ, ← ih]
    simp only [← xb_row]
    exact pay22_eq _ _ _ _ _ _

/-- The second cycle sum before point `n`. -/
theorem ay_eq (n : ℕ) : (stN V c n).ay o11 = ∑ t ∈ Finset.range n, ∑ r : Fin 4000,
    cyc (V c main_arg6) (V c main_arg8) (V c main_arg2) (V c main_arg4) (row (n := 100000) (V c main_arg1) (tileRow t r)) := by
  induction n with
  | zero => exact Ideal.ofBits_zero_f32
  | succ n ih =>
    rw [Finset.sum_range_succ, ← ih]
    simp only [← yb_row]
    exact pay25_eq _ _ _ _ _ _

/-- The word of positive infinity. -/
theorem inf_top : Ideal.ofBits .f32 0x7F800000#32 = ⊤ := by
  simp only [Ideal.ofBits, Ideal.ieee]
  rw [if_pos (by decide), if_pos (by decide), if_neg (by decide)]

/-- The first network's query `b`. -/
def qx (b : Fin 1024) : Row := mlp (V c main_arg2) (V c main_arg4) (row (n := 1024) (V c main_v4_0) b)
/-- The second network's query `b`. -/
def qy (b : Fin 1024) : Row := mlp (V c main_arg6) (V c main_arg8) (row (n := 1024) (V c main_v4_1) b)

/-- The first scaled queries are minus twice the queries. -/
theorem qx2_apply (n : ℕ) (b : Fin 1024) (k : Fin 128) : (stN V c n).qx2 (ix2 b k) = neg2 * qx V c b k := by
  rw [(stN_fixed V c n).1]
  exact pay6_apply _ _ _ _ _

/-- The second scaled queries are minus twice the queries. -/
theorem qy2_apply (n : ℕ) (b : Fin 1024) (k : Fin 128) : (stN V c n).qy2 (ix2 b k) = neg2 * qy V c b k := by
  rw [(stN_fixed V c n).2.1]
  exact pay7_apply _ _ _ _ _

/-- The running minimum over the second table, before point `n`: what lies below it. -/
theorem le_mx (b : Fin 1024) (n : ℕ) (a : EReal) : a ≤ (stN V c n).mx (ix2 0 b) ↔ ∀ t < n, ∀ r : Fin 4000,
    a ≤ cand (qx V c b) (row (n := 100000) (V c main_arg1) (tileRow t r)) := by
  induction n with
  | zero =>
    refine ⟨fun _ t h => absurd h (Nat.not_lt_zero t), fun _ => ?_⟩
    refine le_of_le_of_eq le_top ?_
    exact ((pay16_apply b).trans inf_top).symm
  | succ n ih =>
    have e : (stN V c (n + 1)).mx (ix2 0 b) = _ := pay2_apply (stN V c n).qx2 (yb V c n) (stN V c n).mx b
    rw [e, le_min_iff, ih, Finset.le_fold_min, inf_top]
    simp only [le_top, true_and, Finset.mem_univ, forall_const, qx2_apply]
    simp only [Nat.lt_succ_iff_lt_or_eq, or_imp, forall_and, forall_eq]
    simp only [← yb_row]
    exact Iff.rfl

/-- The running minimum over the first table, before point `n`: what lies below it. -/
theorem le_my (b : Fin 1024) (n : ℕ) (a : EReal) : a ≤ (stN V c n).my (ix2 0 b) ↔ ∀ t < n, ∀ r : Fin 4000,
    a ≤ cand (qy V c b) (row (n := 100000) (V c main_arg0) (tileRow t r)) := by
  induction n with
  | zero =>
    refine ⟨fun _ t h => absurd h (Nat.not_lt_zero t), fun _ => ?_⟩
    refine le_of_le_of_eq le_top ?_
    exact ((pay17_apply b).trans inf_top).symm
  | succ n ih =>
    have e : (stN V c (n + 1)).my (ix2 0 b) = _ := pay24_apply (stN V c n).qy2 (xb V c n) (stN V c n).my b
    rw [e, le_min_iff, ih, Finset.le_fold_min, inf_top]
    simp only [le_top, true_and, Finset.mem_univ, forall_const, qy2_apply]
    simp only [Nat.lt_succ_iff_lt_or_eq, or_imp, forall_and, forall_eq]
    simp only [← xb_row]
    exact Iff.rfl

/-- What one query adds to the count of mismatches, its own target being `t` and the least of its candidates `M`. -/
def part (q t : Row) (M : EReal) : EReal :=
  Scalar.select (Ideal.cmp .ole (own q t) (M + tol)) 0 (gap (Ideal.sqrt (max (nrm q + M) 0)))

/-- The least candidate for the first network's query `b`. -/
def mxEnd (b : Fin 1024) : EReal := (stN V c 25).mx (ix2 0 b)
/-- The least candidate for the second network's query `b`. -/
def myEnd (b : Fin 1024) : EReal := (stN V c 25).my (ix2 0 b)

/-- The first running minimum ends as the least score over all rows of the second table. -/
theorem le_mxEnd (b : Fin 1024) (a : EReal) : a ≤ mxEnd V c b ↔ ∀ j, a ≤ cand (qx V c b) (row (n := 100000) (V c main_arg1) j) :=
  (le_mx V c b 25 a).trans (forall_tiles fun i => a ≤ cand (qx V c b) (row (n := 100000) (V c main_arg1) i))
/-- The second running minimum ends as the least score over all rows of the first table. -/
theorem le_myEnd (b : Fin 1024) (a : EReal) : a ≤ myEnd V c b ↔ ∀ j, a ≤ cand (qy V c b) (row (n := 100000) (V c main_arg0) j) :=
  (le_my V c b 25 a).trans (forall_tiles fun i => a ≤ cand (qy V c b) (row (n := 100000) (V c main_arg0) i))

/-- The number of rows, as both programs spell it. -/
def nRows : EReal := Ideal.ofBits .f32 0x47C35000#32
/-- The number of queries, as both programs spell it. -/
def nQueries : EReal := Ideal.ofBits .f32 0x44800000#32

/-- The loss the kernel stores: two cycle means, and for each direction the mean distance to the paired row and the mean
    of the mismatches' gaps. -/
theorem out_value : outS (stN V c 25) o11
    = ((((Ideal.div (∑ i, cyc (V c main_arg2) (V c main_arg4) (V c main_arg6) (V c main_arg8) (row (n := 100000) (V c main_arg0) i)) nRows
        + Ideal.div (∑ i, cyc (V c main_arg6) (V c main_arg8) (V c main_arg2) (V c main_arg4) (row (n := 100000) (V c main_arg1) i)) nRows)
        + Ideal.div (∑ b, Ideal.sqrt (sqd (qx V c b) (row (n := 1024) (V c main_v4_1) b))) nQueries)
        + Ideal.div (∑ b, part (qx V c b) (row (n := 1024) (V c main_v4_2) b) (mxEnd V c b)) nQueries)
        + Ideal.div (∑ b, Ideal.sqrt (sqd (qy V c b) (row (n := 1024) (V c main_v4_0) b))) nQueries)
        + Ideal.div (∑ b, part (qy V c b) (row (n := 1024) (V c main_v4_3) b) (myEnd V c b)) nQueries := by
  obtain ⟨-, -, hqx, hqy, hdx, hdy, hsx, hsy⟩ := stN_fixed V c 25
  have rx : ∀ b, row (n := 1024) (k1_pay4 (F := Ideal) (V c main_v4_0) (V c main_arg2) (V c main_arg4)) b = qx V c b :=
    fun b => funext fun k => pay4_apply _ _ _ b k
  have ry : ∀ b, row (n := 1024) (k1_pay5 (F := Ideal) (V c main_v4_1) (V c main_arg6) (V c main_arg8)) b = qy V c b :=
    fun b => funext fun k => pay5_apply _ _ _ b k
  have e1 : (stN V c 25).sx o11 = Ideal.div (∑ b, Ideal.sqrt (sqd (qx V c b) (row (n := 1024) (V c main_v4_1) b))) nQueries := by
    rw [hsx]
    refine (pay14_eq _ _).trans ?_
    simp only [← rx]
    rfl
  have e2 : (stN V c 25).sy o11 = Ideal.div (∑ b, Ideal.sqrt (sqd (qy V c b) (row (n := 1024) (V c main_v4_0) b))) nQueries := by
    rw [hsy]
    refine (pay15_eq _ _).trans ?_
    simp only [← ry]
    rfl
  have e3 : miss (stN V c 25).qnx (stN V c 25).mx (stN V c 25).dsx
      = Ideal.div (∑ b, part (qx V c b) (row (n := 1024) (V c main_v4_2) b) (mxEnd V c b)) nQueries := by
    have hq : ∀ b, (stN V c 25).qnx (ix2 0 b) = nrm (qx V c b) := fun b => by rw [hqx]; exact pay8_apply _ _ _ b
    have hd : ∀ b, (stN V c 25).dsx (ix2 0 b) = own (qx V c b) (row (n := 1024) (V c main_v4_2) b) := fun b => by
      rw [hdx, ← rx]; exact pay11_apply _ _ b
    unfold miss
    simp only [hq, hd]
    rfl
  have e4 : miss (stN V c 25).qny (stN V c 25).my (stN V c 25).dsy
      = Ideal.div (∑ b, part (qy V c b) (row (n := 1024) (V c main_v4_3) b) (myEnd V c b)) nQueries := by
    have hq : ∀ b, (stN V c 25).qny (ix2 0 b) = nrm (qy V c b) := fun b => by rw [hqy]; exact pay10_apply _ _ _ b
    have hd : ∀ b, (stN V c 25).dsy (ix2 0 b) = own (qy V c b) (row (n := 1024) (V c main_v4_3) b) := fun b => by
      rw [hdy, ← ry]; exact pay13_apply _ _ b
    unfold miss
    simp only [hq, hd]
    rfl
  rw [out_apply, e1, e2, e3, e4, ax_eq, ay_eq,
    sum_tiles fun i => cyc (V c main_arg2) (V c main_arg4) (V c main_arg6) (V c main_arg8) (row (n := 100000) (V c main_arg0) i),
    sum_tiles fun i => cyc (V c main_arg6) (V c main_arg8) (V c main_arg2) (V c main_arg4) (row (n := 100000) (V c main_arg1) i)]
  rfl

end Grid

end Cert.Proof.Loss

end
-- ==== Proof.LossReal.lean ====
/- The loss's arithmetic on finite rows: squared distances by their expansion, and one query's share of the count of
   mismatches by the tolerance and by the nearest row's number. -/
module

public import proofs.«01_k».proof.Proof.LossGrid

@[expose] public section

set_option maxRecDepth 16384

noncomputable section

namespace Cert.Proof.Loss

open Idealize.ShloMosaic

/-! ## Finite extended reals -/

/-- An extended real that is a real. -/
def IsReal (a : EReal) : Prop := ∃ r : ℝ, a = (r : EReal)

/-- A sum of reals is the same sum among the extended reals. -/
theorem coe_sum {n : ℕ} (f : Fin n → ℝ) : ∑ i, (f i : EReal) = ((∑ i, f i : ℝ) : EReal) := by
  classical
  refine Finset.induction_on (Finset.univ : Finset (Fin n)) (by simp) fun a s ha ih => ?_
  rw [Finset.sum_insert ha, Finset.sum_insert ha, ih, EReal.coe_add]

/-! ## The constants -/

/-- The reference's two is the real 2. -/
theorem pos2_eq : pos2 = ((2 : ℝ) : EReal) := by
  unfold pos2
  simp [Ideal.ofBits, Ideal.ieee, -EReal.coe_mul]; norm_num

/-- The kernel's minus two is the real -2. -/
theorem neg2_eq : neg2 = ((-2 : ℝ) : EReal) := by
  unfold neg2
  simp [Ideal.ofBits, Ideal.ieee, -EReal.coe_mul, -EReal.coe_neg]; norm_num

/-- The tolerance is a real and at least 0. -/
theorem tol_eq : ∃ e : ℝ, 0 ≤ e ∧ tol = (e : EReal) := by
  unfold tol
  refine ⟨_, ?_, by simp only [Ideal.ofBits, Ideal.ieee]; rw [if_neg (by decide), if_neg (by decide)]⟩
  simp

/-! ## Distances -/

/-- The squared distance by its expansion, as the reference spells it. -/
def dist2 (q t : Row) : EReal := nrm q + nrm t - pos2 * dotp q t

/-- Minus the distance, the squared distance cut at zero. -/
def score (q t : Row) : EReal := -Ideal.sqrt (max (dist2 q t) 0)

section
variable (f g : Fin 128 → ℝ)

/-- The squared distance of two real rows. -/
def rd (f g : Fin 128 → ℝ) : ℝ := ∑ k, (f k - g k) * (f k - g k)

/-- A squared distance is at least 0. -/
theorem rd_nonneg : 0 ≤ rd f g := Finset.sum_nonneg fun _ _ => mul_self_nonneg _

/-- The squared norm of a real row. -/
theorem nrm_coe : nrm (fun k => (f k : EReal)) = ((∑ k, f k * f k : ℝ) : EReal) := by
  unfold nrm
  simp only [← EReal.coe_mul, coe_sum]
/-- The product of two real rows. -/
theorem dotp_coe : dotp (fun k => (f k : EReal)) (fun k => (g k : EReal)) = ((∑ k, f k * g k : ℝ) : EReal) := by
  unfold dotp
  simp only [← EReal.coe_mul, coe_sum]
/-- The squared distance of two real rows. -/
theorem sqd_coe : sqd (fun k => (f k : EReal)) (fun k => (g k : EReal)) = ((rd f g : ℝ) : EReal) := by
  unfold sqd
  simp only [← EReal.coe_sub, ← EReal.coe_mul, coe_sum]
  rfl
/-- A squared distance is the two squared norms less twice the product. -/
theorem rd_expand : rd f g = (∑ k, f k * f k) + (∑ k, g k * g k) - 2 * ∑ k, f k * g k := by
  unfold rd
  rw [Finset.mul_sum, ← Finset.sum_add_distrib, ← Finset.sum_sub_distrib]
  exact Finset.sum_congr rfl fun k _ => by ring
/-- A real target's score is its squared distance less the query's squared norm. -/
theorem cand_coe : cand (fun k => (f k : EReal)) (fun k => (g k : EReal)) = ((rd f g - ∑ k, f k * f k : ℝ) : EReal) := by
  unfold cand
  rw [nrm_coe, neg2_eq]
  simp only [← EReal.coe_mul, coe_sum, ← EReal.coe_add]
  congr 1
  rw [rd_expand, Finset.mul_sum]
  have : ∑ k, g k * (-2 * f k) = -∑ k, 2 * (f k * g k) := by
    rw [← Finset.sum_neg_distrib]
    exact Finset.sum_congr rfl fun k _ => by ring
  rw [this]
  ring
/-- A real query's score against its own target is their squared distance less the query's squared norm. -/
theorem own_coe : own (fun k => (f k : EReal)) (fun k => (g k : EReal)) = ((rd f g - ∑ k, f k * f k : ℝ) : EReal) := by
  unfold own
  rw [nrm_coe, pos2_eq, dotp_coe, ← EReal.coe_mul, ← EReal.coe_sub]
  congr 1
  rw [rd_expand]
  ring
/-- The reference's squared distance of two real rows is their squared distance. -/
theorem dist2_coe : dist2 (fun k => (f k : EReal)) (fun k => (g k : EReal)) = ((rd f g : ℝ) : EReal) := by
  unfold dist2
  rw [nrm_coe, nrm_coe, pos2_eq, dotp_coe, ← EReal.coe_mul, ← EReal.coe_add, ← EReal.coe_sub, rd_expand]
/-- The root of a real that is at least 0. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]
/-- The reference's score of two real rows is minus their distance. -/
theorem score_coe : score (fun k => (f k : EReal)) (fun k => (g k : EReal)) = ((-Real.sqrt (rd f g) : ℝ) : EReal) := by
  unfold score
  rw [dist2_coe, max_eq_left (EReal.coe_nonneg.2 (rd_nonneg f g)), sqrt_coe (rd_nonneg f g), EReal.coe_neg]

end

/-- The comparison at most, as a bit. -/
theorem cmp_ole (a b : EReal) : Ideal.cmp .ole a b = BitVec.ofBool (decide (a ≤ b)) := rfl

/-- One query's share of the count of mismatches: by its tolerance, what the kernel counts; by the number of the nearest
    row, what the reference counts. The query's own row is strictly nearest, or some row is nearer by more than the
    tolerance. -/
theorem part_eq (q : Row) (T : Fin 100000 → Row) (i p : Fin 100000) (M : EReal) (hq : ∀ k, IsReal (q k))
    (hT : ∀ j k, IsReal (T j k)) (hM : ∀ a, a ≤ M ↔ ∀ j, a ≤ cand q (T j)) (hp : ∀ j, score q (T j) ≤ score q (T p))
    (hpre : (∀ j, j = i ∨ sqd q (T i) < dist2 q (T j)) ∨ ∃ j, dist2 q (T j) < sqd q (T i) - tol) :
    part q (T i) M = Scalar.select (IntOp.cmpi .ne (BitVec.ofNat 32 p.val) (BitVec.ofNat 32 i.val)) (gap (-score q (T p))) 0 := by
  choose f hf using hq
  choose g hg using hT
  obtain rfl : q = fun k => (f k : EReal) := funext hf
  obtain rfl : T = fun j k => (g j k : EReal) := funext fun j => funext fun k => hg j k
  clear hf hg
  simp only [score_coe, EReal.coe_le_coe_iff, neg_le_neg_iff, dist2_coe, sqd_coe, cand_coe] at hp hpre hM
  obtain ⟨e, he, htol⟩ := tol_eq
  simp only [htol, ← EReal.coe_sub, EReal.coe_lt_coe_iff] at hpre
  have hmin : ∀ j, rd f (g p) ≤ rd f (g j) := fun j => (Real.sqrt_le_sqrt_iff (rd_nonneg _ _)).1 (hp j)
  have hMe : M = ((rd f (g p) - ∑ k, f k * f k : ℝ) : EReal) := by
    refine le_antisymm ((hM M).1 le_rfl p) ((hM _).2 fun j => EReal.coe_le_coe_iff.2 ?_)
    have := hmin j
    linarith
  unfold part
  rw [own_coe, hMe, htol, nrm_coe, score_coe, ← EReal.coe_add, ← EReal.coe_add, cmp_ole]
  have e1 : (∑ k, f k * f k + (rd f (g p) - ∑ k, f k * f k)) = rd f (g p) := by ring
  rw [e1, max_eq_left (EReal.coe_nonneg.2 (rd_nonneg f (g p))), sqrt_coe (rd_nonneg f (g p)), EReal.coe_neg, neg_neg]
  simp only [EReal.coe_le_coe_iff]
  have hword : IntOp.cmpi .ne (BitVec.ofNat 32 p.val) (BitVec.ofNat 32 i.val) = BitVec.ofBool (decide (p ≠ i)) := by
    show BitVec.ofBool (BitVec.ofNat 32 p.val != BitVec.ofNat 32 i.val) = _
    congr 1
    by_cases h : p = i
    · subst h
      simp
    · have : BitVec.ofNat 32 p.val ≠ BitVec.ofNat 32 i.val := fun hh => h (Fin.ext (by
        have := congrArg BitVec.toNat hh
        have h1 := p.isLt
        have h2 := i.isLt
        simp only [BitVec.toNat_ofNat] at this
        omega))
      simp [h, this]
  rw [hword]
  rcases hpre with h | ⟨j, hj⟩
  · have hpi : p = i := by
      rcases h p with h | h
      · exact h
      · exact absurd (hmin i) (not_le.2 h)
    subst hpi
    rw [decide_eq_true (by linarith)]
    simp [Scalar.select]
  · have hlt : rd f (g p) < rd f (g i) - e := lt_of_le_of_lt (hmin j) hj
    have hne : p ≠ i := fun h => by subst h; linarith
    rw [decide_eq_false (by intro h; linarith), decide_eq_true hne]
    simp [Scalar.select]

end Cert.Proof.Loss

end
-- ==== Proof.LossInf.lean ====
/- The loss where some entry is infinite: a cycle mean or a mean distance is then infinite, and every term stays at or above
   zero, so that the loss is infinite by either way of counting mismatches. -/
module

public import proofs.«01_k».proof.Proof.LossReal

@[expose] public section

set_option maxRecDepth 16384

noncomputable section

namespace Cert.Proof.Loss

open Idealize.ShloMosaic

/-- An extended real that is no real is one of the two infinities. -/
theorem not_real {a : EReal} (h : ¬ IsReal a) : a = ⊤ ∨ a = ⊥ := by
  induction a with
  | bot => exact Or.inr rfl
  | top => exact Or.inl rfl
  | coe r => exact absurd ⟨r, rfl⟩ h

/-- A square is at or above zero. -/
theorem sq_nonneg' (a : EReal) : 0 ≤ a * a := by
  induction a with
  | bot => simp
  | top => simp
  | coe r => exact_mod_cast mul_self_nonneg r

/-- A difference with an infinite side has an infinite square. -/
theorem sq_top {a b : EReal} (h : ¬ (IsReal a ∧ IsReal b)) : (a - b) * (a - b) = ⊤ := by
  induction a with
  | bot => simp
  | top =>
    induction b with
    | bot => simp
    | top => simp
    | coe s => simp
  | coe r =>
    induction b with
    | bot => simp
    | top => simp
    | coe s => exact absurd ⟨⟨r, rfl⟩, ⟨s, rfl⟩⟩ h

/-- A sum of terms at or above zero, one of them infinite, is infinite. -/
theorem sum_top {n : ℕ} (f : Fin n → EReal) (h : ∀ i, 0 ≤ f i) (k : Fin n) (hk : f k = ⊤) : ∑ i, f i = ⊤ :=
  top_le_iff.1 (hk ▸ Finset.single_le_sum (fun i _ => h i) (Finset.mem_univ k))

/-- A sum that is plus infinity has a term that is. -/
theorem top_of_sum {n : ℕ} (f : Fin n → EReal) (h : ∑ i, f i = ⊤) : ∃ k, f k = ⊤ := by
  classical
  by_contra hn
  push Not at hn
  have : ∀ s : Finset (Fin n), ∑ i ∈ s, f i ≠ ⊤ := fun s => by
    induction s using Finset.induction_on with
    | empty => simp
    | insert a s ha ih =>
      rw [Finset.sum_insert ha]
      exact EReal.add_ne_top (hn a) ih
  exact this _ h

/-- A sum with a term that is minus infinity is minus infinity. -/
theorem sum_bot {n : ℕ} (f : Fin n → EReal) (k : Fin n) (hk : f k = ⊥) : ∑ i, f i = ⊥ := by
  classical
  rw [← Finset.add_sum_erase _ _ (Finset.mem_univ k), hk, EReal.bot_add]

/-- A squared distance is at or above zero. -/
theorem sqd_nonneg (q t : Row) : 0 ≤ sqd q t := Finset.sum_nonneg fun _ _ => sq_nonneg' _

/-- A squared norm is at or above zero. -/
theorem nrm_nonneg (q : Row) : 0 ≤ nrm q := Finset.sum_nonneg fun _ _ => sq_nonneg' _

/-- A squared distance of two rows with an infinite entry is infinite. -/
theorem sqd_top {q t : Row} (k : Fin 128) (h : ¬ (IsReal (q k) ∧ IsReal (t k))) : sqd q t = ⊤ :=
  sum_top _ (fun _ => sq_nonneg' _) k (sq_top h)

/-- A squared norm of a row with an infinite entry is infinite. -/
theorem nrm_top {q : Row} (k : Fin 128) (h : ¬ IsReal (q k)) : nrm q = ⊤ :=
  sum_top _ (fun _ => sq_nonneg' _) k (by rcases not_real h with e | e <;> rw [e] <;> simp)

/-- Two rows at a finite distance are finite. -/
theorem real_of_sqd {q t : Row} (h : sqd q t ≠ ⊤) : (∀ k, IsReal (q k)) ∧ ∀ k, IsReal (t k) := by
  constructor <;> intro k <;> by_contra hn
  · exact h (sqd_top k fun e => hn e.1)
  · exact h (sqd_top k fun e => hn e.2)

/-- A root of a value at or above zero is at or above zero. -/
theorem sqrt_nonneg' {a : EReal} (h : 0 ≤ a) : 0 ≤ Ideal.sqrt a := by
  induction a with
  | bot => simp at h
  | top => exact le_top
  | coe r =>
    rw [sqrt_coe (EReal.coe_nonneg.1 h)]
    exact EReal.coe_nonneg.2 (Real.sqrt_nonneg r)

/-- A root is infinite only where its argument is. -/
theorem sqrt_ne_top {a : EReal} (h0 : 0 ≤ a) (h : a ≠ ⊤) : Ideal.sqrt a ≠ ⊤ := by
  induction a with
  | bot => simp at h0
  | top => exact absurd rfl h
  | coe r =>
    rw [sqrt_coe (EReal.coe_nonneg.1 h0)]
    exact EReal.coe_ne_top _

/-- The gap between a finite distance's ceiling and its floor is at or above zero. -/
theorem gap_nonneg {v : EReal} (h0 : 0 ≤ v) (h : v ≠ ⊤) : 0 ≤ gap v := by
  induction v with
  | bot => simp at h0
  | top => exact absurd rfl h
  | coe r =>
    show (0 : EReal) ≤ (((⌈r⌉ : ℤ) : ℝ) : EReal) - (((⌊r⌋ : ℤ) : ℝ) : EReal)
    rw [← EReal.coe_sub]
    refine EReal.coe_nonneg.2 (sub_nonneg.2 ?_)
    exact_mod_cast Int.floor_le_ceil r

/-- A value at or above zero by a positive real is at or above zero, and infinity by it is infinity. -/
theorem div_pos' {n : ℝ} (hn : 0 < n) : (∀ x : EReal, 0 ≤ x → 0 ≤ Ideal.div x n) ∧ Ideal.div ⊤ n = ⊤ := by
  have hne : (n : EReal) ≠ 0 := by exact_mod_cast hn.ne'
  have hinv : (n : EReal)⁻¹ = ((n⁻¹ : ℝ) : EReal) := (EReal.coe_inv n).symm
  have ht : Ideal.div ⊤ n = ⊤ := by
    unfold Ideal.div
    rw [if_neg hne, hinv]
    exact EReal.top_mul_coe_of_pos (inv_pos.2 hn)
  refine ⟨fun x hx => ?_, ht⟩
  induction x with
  | bot => simp at hx
  | top => rw [ht]; exact le_top
  | coe r =>
    unfold Ideal.div
    rw [if_neg hne, hinv, ← EReal.coe_mul]
    exact EReal.coe_nonneg.2 (mul_nonneg (EReal.coe_nonneg.1 hx) (inv_pos.2 hn).le)

/-- The number of rows is 100000. -/
theorem nRows_eq : nRows = ((100000 : ℝ) : EReal) := by
  unfold nRows
  simp [Ideal.ofBits, Ideal.ieee, -EReal.coe_mul]; norm_num

/-- The number of queries is 1024. -/
theorem nQueries_eq : nQueries = ((1024 : ℝ) : EReal) := by
  unfold nQueries
  simp [Ideal.ofBits, Ideal.ieee, -EReal.coe_mul]; norm_num

/-- A mean over rows of terms at or above zero is at or above zero, and infinite where one term is. -/
theorem mean_rows {n : ℕ} (f : Fin n → EReal) (h : ∀ i, 0 ≤ f i) :
    0 ≤ Ideal.div (∑ i, f i) nRows ∧ ((∃ k, f k = ⊤) → Ideal.div (∑ i, f i) nRows = ⊤) := by
  obtain ⟨h1, h2⟩ := div_pos' (n := 100000) (by norm_num)
  rw [nRows_eq]
  exact ⟨h1 _ (Finset.sum_nonneg fun i _ => h i), fun ⟨k, hk⟩ => by rw [sum_top f h k hk, h2]⟩

/-- A mean over queries of terms at or above zero is at or above zero, and infinite where one term is. -/
theorem mean_queries {n : ℕ} (f : Fin n → EReal) (h : ∀ i, 0 ≤ f i) :
    0 ≤ Ideal.div (∑ i, f i) nQueries ∧ ((∃ k, f k = ⊤) → Ideal.div (∑ i, f i) nQueries = ⊤) := by
  obtain ⟨h1, h2⟩ := div_pos' (n := 1024) (by norm_num)
  rw [nQueries_eq]
  exact ⟨h1 _ (Finset.sum_nonneg fun i _ => h i), fun ⟨k, hk⟩ => by rw [sum_top f h k hk, h2]⟩

/-- Where the reference's squared distance is not infinite, the kernel's is not. -/
theorem cand_ne_top {q t : Row} (h : dist2 q t ≠ ⊤) : nrm q + cand q t ≠ ⊤ := by
  by_cases hr : (∀ k, IsReal (q k)) ∧ ∀ k, IsReal (t k)
  · obtain ⟨hq, ht⟩ := hr
    choose f hf using hq
    choose g hg using ht
    obtain rfl : q = fun k => (f k : EReal) := funext hf
    obtain rfl : t = fun k => (g k : EReal) := funext hg
    rw [nrm_coe, cand_coe, ← EReal.coe_add]
    exact EReal.coe_ne_top _
  · have hs : nrm q + nrm t = ⊤ := by
      rw [not_and_or] at hr
      rcases hr with hr | hr <;> push Not at hr <;> obtain ⟨k, hk⟩ := hr
      · rw [nrm_top k hk]
        exact EReal.top_add_of_ne_bot (ne_bot_of_le_ne_bot (by simp) (nrm_nonneg t))
      · rw [nrm_top k hk]
        exact EReal.add_top_of_ne_bot (ne_bot_of_le_ne_bot (by simp) (nrm_nonneg q))
    have hd : dotp q t = ⊤ := by
      by_contra hn
      apply h
      unfold dist2
      rw [hs, pos2_eq]
      generalize dotp q t = d at hn
      induction d with
      | bot => rw [EReal.coe_mul_bot_of_pos (by norm_num)]; simp
      | top => exact absurd rfl hn
      | coe r => rw [← EReal.coe_mul]; exact EReal.top_sub_coe _
    obtain ⟨k, hk⟩ := top_of_sum _ hd
    have hb : ∑ k, t k * (neg2 * q k) = ⊥ := by
      refine sum_bot _ k ?_
      rw [neg2_eq, mul_left_comm, mul_comm (t k), hk]
      exact EReal.coe_mul_top_of_neg (by norm_num)
    unfold cand
    rw [hb, EReal.add_bot, EReal.add_bot]
    exact bot_ne_top

/-- A query whose own row is strictly nearest, or that has a row nearer by more than the tolerance, has a row at a distance
    that is not infinite. -/
theorem exists_near (q : Row) (T : Fin 100000 → Row) (i : Fin 100000)
    (hpre : (∀ j, j = i ∨ sqd q (T i) < dist2 q (T j)) ∨ ∃ j, dist2 q (T j) < sqd q (T i) - tol) : ∃ j, dist2 q (T j) ≠ ⊤ := by
  rcases hpre with h | ⟨j, hj⟩
  · obtain ⟨j, hj⟩ := exists_ne i
    have hlt := (h j).resolve_left hj
    obtain ⟨hq, ht⟩ := real_of_sqd (ne_top_of_lt hlt)
    refine ⟨i, ?_⟩
    choose f hf using hq
    choose g hg using ht
    have e1 : q = fun k => (f k : EReal) := funext hf
    have e2 : T i = fun k => (g k : EReal) := funext hg
    rw [e1, e2, dist2_coe]
    exact EReal.coe_ne_top _
  · exact ⟨j, ne_top_of_lt hj⟩

/-- What the kernel counts for such a query is at or above zero. -/
theorem part_nonneg (q : Row) (T : Fin 100000 → Row) (i : Fin 100000) (M : EReal) (hM : ∀ a, a ≤ M ↔ ∀ j, a ≤ cand q (T j))
    (hpre : (∀ j, j = i ∨ sqd q (T i) < dist2 q (T j)) ∨ ∃ j, dist2 q (T j) < sqd q (T i) - tol) (t : Row) : 0 ≤ part q t M := by
  obtain ⟨j, hj⟩ := exists_near q T i hpre
  have hle : nrm q + M ≤ nrm q + cand q (T j) := add_le_add_right ((hM M).1 le_rfl j) _
  have hne : nrm q + M ≠ ⊤ := fun e => cand_ne_top hj (top_le_iff.1 (e ▸ hle))
  have hg : 0 ≤ gap (Ideal.sqrt (max (nrm q + M) 0)) :=
    gap_nonneg (sqrt_nonneg' (le_max_right _ _)) (sqrt_ne_top (le_max_right _ _) (by
      rcases max_choice (nrm q + M) 0 with e | e <;> rw [e]
      · exact hne
      · exact EReal.zero_ne_top))
  unfold part Scalar.select
  split <;> first | exact le_rfl | exact hg

/-- What the reference counts for such a query is at or above zero. -/
theorem share_nonneg (q : Row) (T : Fin 100000 → Row) (i p : Fin 100000) (hp : ∀ j, score q (T j) ≤ score q (T p))
    (hpre : (∀ j, j = i ∨ sqd q (T i) < dist2 q (T j)) ∨ ∃ j, dist2 q (T j) < sqd q (T i) - tol) (w : BitVec 1) :
    0 ≤ Scalar.select w (gap (-score q (T p))) 0 := by
  obtain ⟨j, hj⟩ := exists_near q T i hpre
  have hle : Ideal.sqrt (max (dist2 q (T p)) 0) ≤ Ideal.sqrt (max (dist2 q (T j)) 0) := EReal.neg_le_neg_iff.1 (hp j)
  have hne : Ideal.sqrt (max (dist2 q (T j)) 0) ≠ ⊤ := sqrt_ne_top (le_max_right _ _) (by
    rcases max_choice (dist2 q (T j)) 0 with e | e <;> rw [e]
    · exact hj
    · exact EReal.zero_ne_top)
  have hg : 0 ≤ gap (-score q (T p)) := by
    unfold score
    rw [neg_neg]
    exact gap_nonneg (sqrt_nonneg' (le_max_right _ _)) fun e => hne (top_le_iff.1 (e ▸ hle))
  unfold Scalar.select
  split <;> first | exact le_rfl | exact hg

/-- Six terms at or above zero, one of the four means of distances infinite: their sum is infinite. -/
theorem six_top {a b c d e f : EReal} (ha : 0 ≤ a) (hb : 0 ≤ b) (hc : 0 ≤ c) (hd : 0 ≤ d) (he : 0 ≤ e) (hf : 0 ≤ f)
    (h : a = ⊤ ∨ b = ⊤ ∨ c = ⊤ ∨ e = ⊤) : ((((a + b) + c) + d) + e) + f = ⊤ := by
  refine top_le_iff.1 ?_
  rcases h with h | h | h | h <;> subst h
  · exact (le_add_of_nonneg_right hb).trans ((le_add_of_nonneg_right hc).trans ((le_add_of_nonneg_right hd).trans
      ((le_add_of_nonneg_right he).trans (le_add_of_nonneg_right hf))))
  · exact (le_add_of_nonneg_left ha).trans ((le_add_of_nonneg_right hc).trans ((le_add_of_nonneg_right hd).trans
      ((le_add_of_nonneg_right he).trans (le_add_of_nonneg_right hf))))
  · exact (le_add_of_nonneg_left (add_nonneg ha hb)).trans ((le_add_of_nonneg_right hd).trans
      ((le_add_of_nonneg_right he).trans (le_add_of_nonneg_right hf)))
  · exact (le_add_of_nonneg_left (add_nonneg (add_nonneg (add_nonneg ha hb) hc) hd)).trans (le_add_of_nonneg_right hf)

end Cert.Proof.Loss

end
-- ==== Proof.LossPre.lean ====
/- What the value claim's precondition says of a memory: indices name rows, biases are zero, and no query has a row nearly as near as its own. -/
module

public import proofs.«01_k».proof.Proof.LossReal
public import proofs.«01_k».proof.Proof.IdealFrame
public import proofs.«01_k».proof.Pre_zero_biases_without_near_ties
public import Idealize.ShloMosaic.Lib.ReduceAll
public import Idealize.ShloMosaic.Lib.Routing.Ops
public import Idealize.ShloMosaic.Lib.Routing.OpsPair

@[expose] public section

set_option maxRecDepth 16384

noncomputable section

namespace Cert.Proof.Loss.Pre

open Idealize.ShloMosaic
open Cert.Pre_zero_biases_without_near_ties
open Cert.Pre_zero_biases_without_near_ties.Facts
open Cert.Proof.IdealRun (rowNo)

variable [Cert.Pre_zero_biases_without_near_ties.Facts]

/-- The squared distances of queries to all rows, as the precondition spells them. -/
def d2 (Q : Tab 1024 128) (Y : Tab 100000 128) : Tab 1024 100000 :=
  subf (F := Ideal) (φ := .f32) (addf (broadcastInDim S1024x100000 ![0, 1] bcast_S1024x1_S1024x100000_0_1 (broadcastInDim S1024x1 ![0] bcast_S1024_S1024x1_0
      (Host.reduceAdd (F := Ideal) (φ := .f32) (mulf (F := Ideal) (φ := .f32) Q Q) (constant S_ .f32 0x00000000#32) reducesTo_S1024x128_S1024_d1 h_S_)))
    (broadcastInDim S1024x100000 ![0, 1] bcast_S1x100000_S1024x100000_0_1 (broadcastInDim S1x100000 ![1] bcast_S100000_S1x100000_1
      (Host.reduceAdd (F := Ideal) (φ := .f32) (mulf (F := Ideal) (φ := .f32) Y Y) (constant S_ .f32 0x00000000#32) reducesTo_S100000x128_S100000_d1 h_S_))))
    (mulf (broadcastInDim S1024x100000 ![] bcast_S_S1024x100000 (constant S_ .f32 0x40000000#32))
      (Host.dotGeneral (F := Ideal) (φ₁ := .f32) (φ₂ := .f32) dot_S1024x128_S128x100000_S1024x100000_1_0_0_1_n_n none Q (transpose S128x100000 [1, 0] Y transposes_S100000x128_S128x100000_1_0)))

/-- Those distances, entry by entry. -/
theorem d2_apply (Q : Tab 1024 128) (Y : Tab 100000 128) (b : Fin 1024) (j : Fin 100000) :
    d2 Q Y (ix2 b j) = dist2 (row Q b) (row Y j) := by
  pointwise [d2]
  rfl

/-- The rows that the wrapped indices name. -/
def gat (Y : Tab 100000 128) (I : IVec S1024 32) : Tab 1024 128 :=
  Host.gather gather_S100000x128_S1024x1_S1024x128_1_0_n_n_0_1_1128 Y
      (broadcastInDim S1024x1 ![0] bcast_S1024_S1024x1_0 (select (cmpi .slt I (broadcastInDim S1024 ![] bcast_S_S1024 (constantI S_ 32 0#32)))
        (addi I (broadcastInDim S1024 ![] bcast_S_S1024 (constantI S_ 32 100000#32))) I))

/-- An index below 100000 names its own row: the wrap does not move it. -/
theorem gat_apply (t : Tab 100000 128) (I : IVec S1024 32) (hI : ∀ j, (I j).toNat < 100000) (b : Fin 1024) (k : Fin 128) :
    gat t I (ix2 b k) = t (ix2 (rowNo (I (ix1 b)).toNat) k) := by
  have h := hI (ix1 b)
  refine Routing.gather_row gather_S100000x128_S1024x1_S1024x128_1_0_n_n_0_1_1128 rfl rfl rfl rfl rfl t _ b k (rowNo (I (ix1 b)).toNat) ?_ (by decide)
  have e : BitVec.ofNat 32 (rowNo (I (ix1 b)).toNat).val = I (ix1 b) := by
    have : (rowNo (I (ix1 b)).toNat).val = (I (ix1 b)).toNat := min_eq_left (by omega)
    rw [this, BitVec.ofNat_toNat, BitVec.setWidth_eq]
  rw [e]
  pointwise
  show Scalar.select (IntOp.cmpi .slt (I (ix1 b)) 0#32) _ (I (ix1 b)) = I (ix1 b)
  exact Routing.wrap_of_lt _ _ (by omega)

/-- The squared distance of each query to its own row. -/
def ownSq (Q : Tab 1024 128) (Y : Tab 100000 128) (I : IVec S1024 32) : Tab 1024 1 :=
  broadcastInDim S1024x1 ![0] bcast_S1024_S1024x1_0 (Host.reduceAdd (F := Ideal) (φ := .f32) (mulf (F := Ideal) (φ := .f32) (subf (F := Ideal) (φ := .f32) Q (gat Y I)) (subf (F := Ideal) (φ := .f32) Q (gat Y I)))
    (constant S_ .f32 0x00000000#32) reducesTo_S1024x128_S1024_d1 h_S_)

/-- That distance, entry by entry. -/
theorem ownSq_apply (Q : Tab 1024 128) (Y : Tab 100000 128) (I : IVec S1024 32) (hI : ∀ j, (I j).toNat < 100000) (b : Fin 1024) :
    ownSq Q Y I (ix2 b 0) = sqd (row Q b) (row Y (rowNo (I (ix1 b)).toNat)) := by
  pointwise [ownSq]
  simp only [gat_apply Y I hI]
  rfl

/-- A conjunction of two bits is one where both are. -/
theorem and_one (a b : BitVec 1) (h : IntOp.andi a b = 1#1) : a = 1#1 ∧ b = 1#1 := by
  revert a b
  decide

/-- A disjunction of two bits is one where either is. -/
theorem or_one (a b : BitVec 1) (h : IntOp.ori a b = 1#1) : a = 1#1 ∨ b = 1#1 := by
  revert a b
  decide

/-- The bit of a statement is one only where the statement holds. -/
theorem ofBool_one (p : Prop) [Decidable p] (h : BitVec.ofBool (decide p) = 1#1) : p := by
  by_contra n
  rw [decide_eq_false n] at h
  exact absurd h (by decide)

/-- A conjunction that holds holds of each. -/
theorem fold_and {ι : Type} (s : Finset ι) (f : ι → BitVec 1) (h : s.fold IntOp.andi 1#1 f = 1#1) : ∀ i ∈ s, f i = 1#1 := by
  classical
  induction s using Finset.induction_on with
  | empty => intro i hi; simp at hi
  | insert a s ha ih =>
    rw [Finset.fold_insert ha] at h
    obtain ⟨h1, h2⟩ := and_one _ _ h
    intro i hi
    rcases Finset.mem_insert.1 hi with rfl | hi
    · exact h1
    · exact ih h2 i hi

/-- A disjunction that holds holds of one. -/
theorem fold_or {ι : Type} (s : Finset ι) (f : ι → BitVec 1) (h : s.fold IntOp.ori 0#1 f = 1#1) : ∃ i ∈ s, f i = 1#1 := by
  classical
  induction s using Finset.induction_on with
  | empty => simp at h
  | insert a s ha ih =>
    rw [Finset.fold_insert ha] at h
    rcases or_one _ _ h with h1 | h2
    · exact ⟨a, Finset.mem_insert_self .., h1⟩
    · obtain ⟨i, hi, e⟩ := ih h2
      exact ⟨i, Finset.mem_insert_of_mem hi, e⟩

/-- A row's number read as a word is the word an index holds only where the index names the row. -/
theorem eq_rowNo (j : Fin 100000) (w : BitVec 32) (h : IntOp.cmpi .eq (BitVec.ofNat 32 j.val) w = 1#1) : j = rowNo w.toNat := by
  have e : BitVec.ofNat 32 j.val = w := by
    by_contra n
    have f : (BitVec.ofNat 32 j.val == w) = false := by simpa using n
    change BitVec.ofBool (BitVec.ofNat 32 j.val == w) = 1#1 at h
    rw [f] at h
    exact absurd h (by decide)
  subst e
  apply Fin.ext
  have hj := j.isLt
  show j.val = min (BitVec.ofNat 32 j.val).toNat 99999
  rw [BitVec.toNat_ofNat, Nat.mod_eq_of_lt (by omega)]
  omega

/-- Each query's own row is strictly the nearest, or some row is nearer by more than the tolerance. -/
def noTie (Q : Tab 1024 128) (Y : Tab 100000 128) (I : IVec S1024 32) : IVec S1024 1 :=
  ori (Host.reduce IntOp.andi (ori (cmpi .eq (iotaInDim S1024x100000 32 1) (broadcastInDim S1024x100000 ![0, 1] bcast_S1024x1_S1024x100000_0_1 (broadcastInDim S1024x1 ![0] bcast_S1024_S1024x1_0 I)))
      (cmpf (F := Ideal) (φ := .f32) .ogt (d2 Q Y) (broadcastInDim S1024x100000 ![0, 1] bcast_S1024x1_S1024x100000_0_1 (ownSq Q Y I)))) (constantI S_ 1 1#1) reducesTo_S1024x100000_S1024_d1 h_S_)
    (Host.reduce IntOp.ori (cmpf (F := Ideal) (φ := .f32) .olt (d2 Q Y) (broadcastInDim S1024x100000 ![0, 1] bcast_S1024x1_S1024x100000_0_1
      (subf (F := Ideal) (φ := .f32) (ownSq Q Y I) (broadcastInDim S1024x1 ![] bcast_S_S1024x1 (constant S_ .f32 0x3C23D70A#32))))) (constantI S_ 1 0#1) reducesTo_S1024x100000_S1024_d1 h_S_)

/-- What the test says of one query, in the terms of its row. -/
theorem noTie_apply (Q : Tab 1024 128) (Y : Tab 100000 128) (I : IVec S1024 32) (hI : ∀ j, (I j).toNat < 100000) (b : Fin 1024)
    (h : noTie Q Y I (ix1 b) = 1#1) :
    (∀ j, j = rowNo (I (ix1 b)).toNat ∨ sqd (row Q b) (row Y (rowNo (I (ix1 b)).toNat)) < dist2 (row Q b) (row Y j))
      ∨ ∃ j, dist2 (row Q b) (row Y j) < sqd (row Q b) (row Y (rowNo (I (ix1 b)).toNat)) - tol := by
  revert h
  pointwise [noTie]
  simp only [d2_apply, ownSq_apply Q Y I hI]
  intro h
  rcases or_one _ _ h with h | h
  · refine Or.inl fun j => ?_
    rcases or_one _ _ (fold_and _ _ h j (Finset.mem_univ j)) with e | e
    · exact Or.inl (eq_rowNo j _ e)
    · exact Or.inr (ofBool_one _ e)
  · obtain ⟨j, -, e⟩ := fold_or _ _ h
    exact Or.inr ⟨j, ofBool_one _ e⟩

/-- A network's results at the rows that the indices name. -/
def net (X : Tab 100000 128) (I : IVec S1024 32) (w1 : Tab 128 100) (b1 : S100.Idx → EReal) (w2 : Tab 100 128) (b2 : S128.Idx → EReal) : Tab 1024 128 :=
  addf (F := Ideal) (φ := .f32) (Host.dotGeneral (F := Ideal) (φ₁ := .f32) (φ₂ := .f32) dot_S1024x100_S100x128_S1024x128_1_0_0_1_n_n none
      (maximumf (F := Ideal) (φ := .f32) (addf (F := Ideal) (φ := .f32) (Host.dotGeneral (F := Ideal) (φ₁ := .f32) (φ₂ := .f32) dot_S1024x128_S128x100_S1024x100_1_0_0_1_n_n none (gat X I) w1)
        (broadcastInDim S1024x100 ![0, 1] bcast_S1x100_S1024x100_0_1 (broadcastInDim S1x100 ![1] bcast_S100_S1x100_1 b1)))
        (broadcastInDim S1024x100 ![] bcast_S_S1024x100 (constant S_ .f32 0x00000000#32))) w2)
    (broadcastInDim S1024x128 ![0, 1] bcast_S1x128_S1024x128_0_1 (broadcastInDim S1x128 ![1] bcast_S128_S1x128_1 b2))

/-- With zero biases, each row of those results is the network of the row that the index names. -/
theorem net_apply (X : Tab 100000 128) (I : IVec S1024 32) (w1 : Tab 128 100) (b1 : S100.Idx → EReal) (w2 : Tab 100 128) (b2 : S128.Idx → EReal)
    (hI : ∀ j, (I j).toNat < 100000) (h1 : ∀ j, b1 j = 0) (h2 : ∀ j, b2 j = 0) (b : Fin 1024) :
    row (net X I w1 b1 w2 b2) b = mlp w1 w2 (row X (rowNo (I (ix1 b)).toNat)) := by
  funext k
  show net X I w1 b1 w2 b2 (ix2 b k) = _
  pointwise [net]
  simp only [h1, h2, gat_apply X I hI, add_zero]
  rfl

/-- A bias compared equal to zero is zero. -/
theorem zero_of {s : Shape} (x t : s.Idx → EReal) (ht : ∀ i, t i = 0) (h : cmpf (F := Ideal) (φ := .f32) .oeq x t = fun _ => 1#1) (i : s.Idx) : x i = 0 := by
  have e := congrFun h i
  change BitVec.ofBool (decide (x i = t i)) = 1#1 at e
  exact (ofBool_one _ e).trans (ht i)

/-- The words that the precondition takes from the index table's first column, and from its second. -/
def colX (ix : IVec S1024x2 32) : IVec S1024 32 :=
  shapeCast S1024 (extractStridedSlice S1024x1 ![0, 0] ix slices_S1024x2_S1024x1_0_0) shapeCasts_S1024x1_S1024
/-- The words that the precondition takes from the index table's second column. -/
def colY (ix : IVec S1024x2 32) : IVec S1024 32 :=
  shapeCast S1024 (extractStridedSlice S1024x1 ![0, 1] ix slices_S1024x2_S1024x1_0_1) shapeCasts_S1024x1_S1024

/-- Biases are zero, indices name rows, and neither direction has a near tie. -/
structure Good (x y : Tab 100000 128) (w1 : Tab 128 100) (b1 : S100.Idx → EReal) (w2 : Tab 100 128) (b2 : S128.Idx → EReal)
    (u1 : Tab 128 100) (d1 : S100.Idx → EReal) (u2 : Tab 100 128) (d2 : S128.Idx → EReal) (ix : IVec S1024x2 32) : Prop where
  range : ∀ j, (ix j).toNat < 100000
  b1_zero : ∀ i, b1 i = 0
  b2_zero : ∀ i, b2 i = 0
  d1_zero : ∀ i, d1 i = 0
  d2_zero : ∀ i, d2 i = 0
  far_x : ∀ b : Fin 1024, let q := mlp w1 w2 (row x (rowNo (colX ix (ix1 b)).toNat)); let i := rowNo (colX ix (ix1 b)).toNat
    (∀ j, j = i ∨ sqd q (row y i) < dist2 q (row y j)) ∨ ∃ j, dist2 q (row y j) < sqd q (row y i) - tol
  far_y : ∀ b : Fin 1024, let q := mlp u1 u2 (row y (rowNo (colY ix (ix1 b)).toNat)); let i := rowNo (colY ix (ix1 b)).toNat
    (∀ j, j = i ∨ sqd q (row x i) < dist2 q (row x j)) ∨ ∃ j, dist2 q (row x j) < sqd q (row x i) - tol

section
variable (x y : Tab 100000 128) (w1 : Tab 128 100) (b1 : S100.Idx → EReal) (w2 : Tab 100 128) (b2 : S128.Idx → EReal)
    (u1 : Tab 128 100) (d1 : S100.Idx → EReal) (u2 : Tab 100 128) (d2 : S128.Idx → EReal) (ix : IVec S1024x2 32) (m11 m12 : IVec S1024 32)

/-- The first component bounds every index. -/
theorem range_of (h : (fn (F := Ideal) x y w1 b1 w2 b2 u1 d1 u2 d2 ix m11 m12).1 = fun _ => 1#1) (j : S1024x2.Idx) : (ix j).toNat < 100000 := by
  have e : andi (cmpi .sge ix (broadcastInDim S1024x2 ![] bcast_S_S1024x2 (constantI S_ 32 0#32))) (cmpi .slt ix (broadcastInDim S1024x2 ![] bcast_S_S1024x2 (constantI S_ 32 100000#32))) = fun _ => 1#1 := h
  exact IdealRun.range_word _ (congrFun e j)

/-- A broadcast of the zero constant is zero everywhere. -/
theorem zero_bcast {s : Shape} (hb : S_.BroadcastsInDim s ![]) (i : s.Idx) : broadcastInDim s ![] hb (constant (F := Ideal) S_ .f32 0x00000000#32) i = 0 :=
  Ideal.ofBits_zero_f32

/-- The near-tie component, read at one query of a network with zero biases. -/
theorem far_of (X Y : Tab 100000 128) (I : IVec S1024 32) (v1 : Tab 128 100) (e1 : S100.Idx → EReal) (v2 : Tab 100 128) (e2 : S128.Idx → EReal)
    (hI : ∀ j, (I j).toNat < 100000) (h1 : ∀ j, e1 j = 0) (h2 : ∀ j, e2 j = 0)
    (h : noTie (net X I v1 e1 v2 e2) Y I = fun _ => 1#1) (b : Fin 1024) :
    (∀ j, j = rowNo (I (ix1 b)).toNat ∨ sqd (mlp v1 v2 (row X (rowNo (I (ix1 b)).toNat))) (row Y (rowNo (I (ix1 b)).toNat)) < dist2 (mlp v1 v2 (row X (rowNo (I (ix1 b)).toNat))) (row Y j))
      ∨ ∃ j, dist2 (mlp v1 v2 (row X (rowNo (I (ix1 b)).toNat))) (row Y j) < sqd (mlp v1 v2 (row X (rowNo (I (ix1 b)).toNat))) (row Y (rowNo (I (ix1 b)).toNat)) - tol := by
  have g := noTie_apply _ _ _ hI b (congrFun h (ix1 b))
  rw [net_apply X I v1 e1 v2 e2 hI h1 h2 b] at g
  exact g

/-- Where all components are ones, the arguments are as `Good` says. -/
theorem good_of
    (h : (fn (F := Ideal) x y w1 b1 w2 b2 u1 d1 u2 d2 ix m11 m12).1 = (fun _ => 1#1)
      ∧ (fn (F := Ideal) x y w1 b1 w2 b2 u1 d1 u2 d2 ix m11 m12).2.1 = (fun _ => 1#1)
      ∧ (fn (F := Ideal) x y w1 b1 w2 b2 u1 d1 u2 d2 ix m11 m12).2.2.1 = (fun _ => 1#1)
      ∧ (fn (F := Ideal) x y w1 b1 w2 b2 u1 d1 u2 d2 ix m11 m12).2.2.2.1 = (fun _ => 1#1)
      ∧ (fn (F := Ideal) x y w1 b1 w2 b2 u1 d1 u2 d2 ix m11 m12).2.2.2.2.1 = (fun _ => 1#1)
      ∧ (fn (F := Ideal) x y w1 b1 w2 b2 u1 d1 u2 d2 ix m11 m12).2.2.2.2.2.1 = (fun _ => 1#1)
      ∧ (fn (F := Ideal) x y w1 b1 w2 b2 u1 d1 u2 d2 ix m11 m12).2.2.2.2.2.2 = (fun _ => 1#1)) :
    Good x y w1 b1 w2 b2 u1 d1 u2 d2 ix := by
  obtain ⟨hr, hb1, hb2, hd1, hd2, hfx, hfy⟩ := h
  have range := range_of _ _ _ _ _ _ _ _ _ _ _ _ _ hr
  have zb1 : ∀ i, b1 i = 0 := zero_of b1 _ (zero_bcast bcast_S_S100) hb1
  have zb2 : ∀ i, b2 i = 0 := zero_of b2 _ (zero_bcast bcast_S_S128) hb2
  have zd1 : ∀ i, d1 i = 0 := zero_of d1 _ (zero_bcast bcast_S_S100) hd1
  have zd2 : ∀ i, d2 i = 0 := zero_of d2 _ (zero_bcast bcast_S_S128) hd2
  exact {
    range := range
    b1_zero := zb1
    b2_zero := zb2
    d1_zero := zd1
    d2_zero := zd2
    far_x := far_of x y (colX ix) w1 b1 w2 b2 (fun j => range _) zb1 zb2 hfx
    far_y := far_of y x (colY ix) u1 d1 u2 d2 (fun j => range _) zd1 zd2 hfy }

end

end Cert.Proof.Loss.Pre

end
-- ==== Proof.LossTop.lean ====
/- The greatest entry of each row of a matrix of extended reals, as the reference's top-one selects it. -/
module

public import Idealize.ShloMosaic.Lib.Pointwise
public import Idealize.ShloMosaic.Lib.SortFacts

@[expose] public section

set_option maxRecDepth 16384

noncomputable section

namespace Cert.Proof.Loss

open Idealize.ShloMosaic

/-- Comparing extended reals by "greater". -/
theorem gt_iff (a b : EReal) : FloatOps.cmpfTotal (F := Ideal) (φ := .f32) .gt a b = 1#1 ↔ b < a := by
  show BitVec.ofBool (decide (b < a)) = 1#1 ↔ _
  by_cases h : b < a <;> simp [h]

/-- The position a stable sort by "greater" puts first holds a greatest entry. -/
theorem first_ge {n : ℕ} (x : Fin (n + 1) → EReal) (j : Fin (n + 1)) :
    x j ≤ x (sortedFrom (fun k k' => FloatOps.cmpfTotal (F := Ideal) (φ := .f32) .gt (x k) (x k') == 1#1) 0) := by
  set B : Fin (n + 1) → Fin (n + 1) → Bool := fun k k' => FloatOps.cmpfTotal (F := Ideal) (φ := .f32) .gt (x k) (x k') == 1#1 with hB
  have hb : ∀ a b, B a b = true ↔ x b < x a := fun a b => by simp only [hB, beq_iff_eq, gt_iff]
  have hf : ∀ a b, B a b = false ↔ x a ≤ x b := fun a b => by rw [← not_lt, ← hb, Bool.not_eq_true]
  obtain ⟨i, rfl⟩ := sortedFrom_surjective B j
  rcases Nat.eq_zero_or_pos i.val with h | h
  · have : i = 0 := Fin.ext h
    rw [this]
  · exact (hf _ _).1 (sortedFrom_noInversion B B (fun a b hab => (hf b a).2 ((hb a b).1 hab).le) (fun _ _ h => h)
      (fun a b c h1 h2 => (hf a c).2 (((hf a b).1 h1).trans ((hf b c).1 h2))) 0 i h)

/-- The top one of each row: the value at some column, that column's number, no column of the row holding more. -/
theorem topOne (x : (⟨2, ![1024, 100000]⟩ : Shape).Idx → EReal) (h : (⟨2, ![1024, 100000]⟩ : Shape).Slices (fun _ => 0) ⟨2, ![1024, 1]⟩) (b : Fin 1024) :
    ∃ p : Fin 100000, (Host.topK ⟨2, ![1024, 1]⟩ 1 (FloatOps.cmpfTotal (F := Ideal) (φ := .f32) .gt) x h).1 (ix2 b 0) = x (ix2 b p)
      ∧ (Host.topK ⟨2, ![1024, 1]⟩ 1 (FloatOps.cmpfTotal (F := Ideal) (φ := .f32) .gt) x h).2 (ix2 b 0) = BitVec.ofNat 32 p.val
      ∧ ∀ j, x (ix2 b j) ≤ x (ix2 b p) := by
  have ha : ∀ (hd : 1 < (⟨2, ![1024, 100000]⟩ : Shape).rank) (k : Fin 100000),
      Shape.Idx.along (s := ⟨2, ![1024, 100000]⟩) (ix2 b 0) ⟨1, hd⟩ k = ix2 b k := fun hd k => by
    funext a
    fin_cases a <;> rfl
  have e : ∀ {α : Type} (y : (⟨2, ![1024, 100000]⟩ : Shape).Idx → α),
      extractStridedSlice ⟨2, ![1024, 1]⟩ (fun _ => 0) y h (ix2 b 0) = y (ix2 b 0) := fun y => by
    unfold extractStridedSlice
    refine congrArg y (funext fun a => Fin.ext ?_)
    fin_cases a
    · exact Nat.zero_add _
    · exact Nat.zero_add _
  have hd : 1 < (⟨2, ![1024, 100000]⟩ : Shape).rank := by decide
  refine ⟨sortedFrom (fun k k' => FloatOps.cmpfTotal (F := Ideal) (φ := .f32) .gt (x (ix2 b k)) (x (ix2 b k')) == 1#1) 0, ?_, ?_,
    fun j => first_ge (n := 99999) (fun k => x (ix2 b k)) j⟩
  · unfold Host.topK
    dsimp only
    rw [e]
    unfold Host.sort2
    rw [dif_pos hd]
    dsimp only
    refine (congrArg x (ha hd _)).trans ?_
    exact congrArg (fun B => x (ix2 b (sortedFrom B 0))) (funext fun k => funext fun k' =>
      congrArg₂ (fun u v => FloatOps.cmpfTotal (F := Ideal) (φ := .f32) .gt (x u) (x v) == 1#1) (ha hd k) (ha hd k'))
  · unfold Host.topK
    dsimp only
    rw [e]
    unfold Host.sort2
    rw [dif_pos hd]
    dsimp only
    refine (dif_pos hd).trans ?_
    refine (congrArg (fun j => iotaInDim (⟨2, ![1024, 100000]⟩ : Shape) 32 ⟨1, hd⟩ j) (ha hd _)).trans ?_
    exact congrArg (fun B => BitVec.ofNat 32 (sortedFrom B (0 : Fin 100000)).val) (funext fun k => funext fun k' =>
      congrArg₂ (fun u v => FloatOps.cmpfTotal (F := Ideal) (φ := .f32) .gt (x u) (x v) == 1#1) (ha hd k) (ha hd k'))

end Cert.Proof.Loss

end
-- ==== Proof.LossRef.lean ====
/- The reference's loss at extended reals, biases zero and indices in range: the same networks, distances and nearest rows
   as the kernel's, spelled by the rows of the two tables. -/
module

public import proofs.«01_k».proof.Proof.LossReal
public import proofs.«01_k».proof.Proof.LossTop
public import proofs.«01_k».proof.Proof.Gen.ReferenceIdeal.Run
public import Idealize.ShloMosaic.Lib.Routing.Ops
public import Idealize.ShloMosaic.Lib.Routing.OpsPair

@[expose] public section

set_option maxRecDepth 16384

noncomputable section

namespace Cert.Proof.Loss.Ref

open Idealize.ShloMosaic Idealize.ShloMosaic.TcCoe
open Cert.ReferenceIdeal Cert.ReferenceIdeal.Gen Cert.ReferenceIdeal.Value
open Cert.Proof.IdealRun (rowNo)

/-- The rows named by the wrapped indices. -/
theorem gather_rows (t : Tab 100000 128) (I : IVec S1024 32) (hI : ∀ j, (I j).toNat < 100000) (b : Fin 1024) (k : Fin 128) :
    Host.gather gather_S100000x128_S1024x1_S1024x128_1_0_n_n_0_1_1128 t
      (broadcastInDim S1024x1 ![0] bcast_S1024_S1024x1_0 (select (cmpi .slt I (broadcastInDim S1024 ![] bcast_S_S1024 (constantI S_ 32 0#32)))
        (addi I (broadcastInDim S1024 ![] bcast_S_S1024 (constantI S_ 32 100000#32))) I)) (ix2 b k)
      = t (ix2 (rowNo (I (ix1 b)).toNat) k) := by
  have h := hI (ix1 b)
  refine Routing.gather_row gather_S100000x128_S1024x1_S1024x128_1_0_n_n_0_1_1128 rfl rfl rfl rfl rfl t _ b k (rowNo (I (ix1 b)).toNat) ?_ (by decide)
  have e : BitVec.ofNat 32 (rowNo (I (ix1 b)).toNat).val = I (ix1 b) := by
    have : (rowNo (I (ix1 b)).toNat).val = (I (ix1 b)).toNat := min_eq_left (by omega)
    rw [this, BitVec.ofNat_toNat, BitVec.setWidth_eq]
  rw [e]
  pointwise
  show Scalar.select (IntOp.cmpi .slt (I (ix1 b)) 0#32) _ (I (ix1 b)) = I (ix1 b)
  exact Routing.wrap_of_lt _ _ (by omega)

/-- The reference's network over a table, its biases zero. -/
theorem net_apply (X : Tab 100000 128) (W1 : Tab 128 100) (B1 : S100.Idx → EReal) (W2 : Tab 100 128) (B2 : S128.Idx → EReal)
    (h1 : ∀ j, B1 j = 0) (h2 : ∀ j, B2 j = 0) (i : Fin 100000) (k : Fin 128) :
    addf (F := Ideal) (Host.dotGeneral (F := Ideal) (φ₁ := .f32) (φ₂ := .f32) dot_S100000x100_S100x128_S100000x128_1_0_0_1_n_n none (maximumf (addf (Host.dotGeneral (F := Ideal) (φ₁ := .f32) (φ₂ := .f32) dot_S100000x128_S128x100_S100000x100_1_0_0_1_n_n none X W1) (broadcastInDim S100000x100 ![0, 1] bcast_S1x100_S100000x100_0_1 (broadcastInDim S1x100 ![1] bcast_S100_S1x100_1 B1))) (broadcastInDim S100000x100 ![] bcast_S_S100000x100 (constant S_ .f32 0x00000000#32))) W2) (broadcastInDim S100000x128 ![0, 1] bcast_S1x128_S100000x128_0_1 (broadcastInDim S1x128 ![1] bcast_S128_S1x128_1 B2)) (ix2 i k)
      = mlp W1 W2 (row X i) k := by
  pointwise
  simp only [h1, h2, add_zero]
  rfl

/-- The reference's scores of queries against a table. -/
theorem score_apply (Q : Tab 1024 128) (Y : Tab 100000 128) (b : Fin 1024) (j : Fin 100000) :
    Host.negf (F := Ideal) (φ := .f32) (Host.sqrt (maximumf (subf (addf (broadcastInDim S1024x100000 ![0, 1] bcast_S1024x1_S1024x100000_0_1 (broadcastInDim S1024x1 ![0] bcast_S1024_S1024x1_0 (Host.reduceAdd (mulf (F := Ideal) (φ := .f32) Q Q) (constant S_ .f32 0x00000000#32) reducesTo_S1024x128_S1024_d1 h_S_))) (broadcastInDim S1024x100000 ![0, 1] bcast_S1x100000_S1024x100000_0_1 (broadcastInDim S1x100000 ![1] bcast_S100000_S1x100000_1 (Host.reduceAdd (mulf (F := Ideal) (φ := .f32) Y Y) (constant S_ .f32 0x00000000#32) reducesTo_S100000x128_S100000_d1 h_S_)))) (mulf (broadcastInDim S1024x100000 ![] bcast_S_S1024x100000 (constant S_ .f32 0x40000000#32)) (Host.dotGeneral (F := Ideal) (φ₁ := .f32) (φ₂ := .f32) dot_S1024x128_S128x100000_S1024x100000_1_0_0_1_n_n none Q (transpose S128x100000 [1, 0] Y transposes_S100000x128_S128x100000_1_0)))) (broadcastInDim S1024x100000 ![] bcast_S_S1024x100000 (constant S_ .f32 0x00000000#32)))) (ix2 b j) = score (row Q b) (row Y j) := by
  pointwise
  rfl

section
variable (W : Valuation τ sig (Elt Ideal))

/-- The reference's tables and weights. -/
abbrev a0 : Tab 100000 128 := W (Proc.devRef .tc main_arg0)
/-- The second table. -/
abbrev a1 : Tab 100000 128 := W (Proc.devRef .tc main_arg1)
/-- The first network's first layer. -/
abbrev a2 : Tab 128 100 := W (Proc.devRef .tc main_arg2)
/-- The first network's second layer. -/
abbrev a4 : Tab 100 128 := W (Proc.devRef .tc main_arg4)
/-- The second network's first layer. -/
abbrev a6 : Tab 128 100 := W (Proc.devRef .tc main_arg6)
/-- The second network's second layer. -/
abbrev a8 : Tab 100 128 := W (Proc.devRef .tc main_arg8)

/-- The first network's first bias. -/
abbrev a3 : S100.Idx → EReal := W (Proc.devRef .tc main_arg3)
/-- The first network's second bias. -/
abbrev a5 : S128.Idx → EReal := W (Proc.devRef .tc main_arg5)
/-- The second network's first bias. -/
abbrev a7 : S100.Idx → EReal := W (Proc.devRef .tc main_arg7)
/-- The second network's second bias. -/
abbrev a9 : S128.Idx → EReal := W (Proc.devRef .tc main_arg9)
/-- The reference's pairs of indices. -/
abbrev a10 : S1024x2.Idx → BitVec 32 := W (Proc.devRef .tc main_arg10)

variable (h3 : ∀ j, a3 W j = 0) (h5 : ∀ j, a5 W j = 0) (h7 : ∀ j, a7 W j = 0) (h9 : ∀ j, a9 W j = 0)
  (hI : ∀ j, (a10 W j).toNat < 100000)

include h3 h5 in
/-- The first table mapped by the first network. -/
theorem v9_apply (i : Fin 100000) (k : Fin 128) : res_main_v9 W (ix2 i k) = mlp (a2 W) (a4 W) (row (a0 W) i) k :=
  net_apply (a0 W) (a2 W) (a3 W) (a4 W) (a5 W) h3 h5 i k
include h7 h9 in
/-- The second table mapped by the second network. -/
theorem v19_apply (i : Fin 100000) (k : Fin 128) : res_main_v19 W (ix2 i k) = mlp (a6 W) (a8 W) (row (a1 W) i) k :=
  net_apply (a1 W) (a6 W) (a7 W) (a8 W) (a9 W) h7 h9 i k
include h3 h5 h7 h9 in
/-- A row of the first table mapped there and back, less the row. -/
theorem v30_apply (i : Fin 100000) (k : Fin 128) :
    res_main_v30 W (ix2 i k) = mlp (a6 W) (a8 W) (mlp (a2 W) (a4 W) (row (a0 W) i)) k - row (a0 W) i k := by
  have e : row (n := 100000) (res_main_v9 W) i = mlp (a2 W) (a4 W) (row (a0 W) i) := funext fun k => v9_apply W h3 h5 i k
  rw [← e]
  exact congrArg (fun u : EReal => u - a0 W (ix2 i k)) (net_apply (res_main_v9 W) (a6 W) (a7 W) (a8 W) (a9 W) h7 h9 i k)
include h3 h5 h7 h9 in
/-- A row of the second table mapped there and back, less the row. -/
theorem v45_apply (i : Fin 100000) (k : Fin 128) :
    res_main_v45 W (ix2 i k) = mlp (a2 W) (a4 W) (mlp (a6 W) (a8 W) (row (a1 W) i)) k - row (a1 W) i k := by
  have e : row (n := 100000) (res_main_v19 W) i = mlp (a6 W) (a8 W) (row (a1 W) i) := funext fun k => v19_apply W h7 h9 i k
  rw [← e]
  exact congrArg (fun u : EReal => u - a1 W (ix2 i k)) (net_apply (res_main_v19 W) (a2 W) (a3 W) (a4 W) (a5 W) h3 h5 i k)

/-- The row of the first table that pair `b` names, and of the second. -/
def xid (b : Fin 1024) : Fin 100000 := rowNo (res_main_v51 W (ix1 b)).toNat
/-- The row of the second table that pair `b` names. -/
def yid (b : Fin 1024) : Fin 100000 := rowNo (res_main_v53 W (ix1 b)).toNat

include hI in
/-- The first index of each pair names a row. -/
theorem v51_lt (j : S1024.Idx) : (res_main_v51 W j).toNat < 100000 := hI _
include hI in
/-- The second index of each pair names a row. -/
theorem v53_lt (j : S1024.Idx) : (res_main_v53 W j).toNat < 100000 := hI _

include h3 h5 hI in
/-- A pair's first row mapped, less its second row. -/
theorem v68_apply (b : Fin 1024) (k : Fin 128) :
    res_main_v68 W (ix2 b k) = mlp (a2 W) (a4 W) (row (a0 W) (xid W b)) k - row (a1 W) (yid W b) k := by
  unfold res_main_v68
  refine congrArg₂ (fun u v : EReal => u - v) ?_ ?_
  · exact (gather_rows _ _ (v51_lt W hI) b k).trans (v9_apply W h3 h5 _ k)
  · exact gather_rows _ _ (v53_lt W hI) b k
include h7 h9 hI in
/-- A pair's second row mapped, less its first row. -/
theorem v122_apply (b : Fin 1024) (k : Fin 128) :
    res_main_v122 W (ix2 b k) = mlp (a6 W) (a8 W) (row (a1 W) (yid W b)) k - row (a0 W) (xid W b) k := by
  unfold res_main_v122
  refine congrArg₂ (fun u v : EReal => u - v) ?_ ?_
  · exact (gather_rows _ _ (v53_lt W hI) b k).trans (v19_apply W h7 h9 _ k)
  · exact gather_rows _ _ (v51_lt W hI) b k
include h3 h5 hI in
/-- The first queries: each pair's first row mapped. -/
theorem v79_apply (b : Fin 1024) (k : Fin 128) : res_main_v79 W (ix2 b k) = mlp (a2 W) (a4 W) (row (a0 W) (xid W b)) k :=
  (gather_rows _ _ (v51_lt W hI) b k).trans (v9_apply W h3 h5 _ k)
include h7 h9 hI in
/-- The second queries: each pair's second row mapped. -/
theorem v133_apply (b : Fin 1024) (k : Fin 128) : res_main_v133 W (ix2 b k) = mlp (a6 W) (a8 W) (row (a1 W) (yid W b)) k :=
  (gather_rows _ _ (v53_lt W hI) b k).trans (v19_apply W h7 h9 _ k)

include h3 h5 hI in
/-- The scores of the first queries against the rows of the second table. -/
theorem v97_apply (b : Fin 1024) (j : Fin 100000) :
    res_main_v97 W (ix2 b j) = score (mlp (a2 W) (a4 W) (row (a0 W) (xid W b))) (row (a1 W) j) := by
  have e : row (n := 1024) (res_main_v79 W) b = mlp (a2 W) (a4 W) (row (a0 W) (xid W b)) := funext fun k => v79_apply W h3 h5 hI b k
  rw [← e]
  exact score_apply (res_main_v79 W) (a1 W) b j
include h7 h9 hI in
/-- The scores of the second queries against the rows of the first table. -/
theorem v151_apply (b : Fin 1024) (j : Fin 100000) :
    res_main_v151 W (ix2 b j) = score (mlp (a6 W) (a8 W) (row (a1 W) (yid W b))) (row (a0 W) j) := by
  have e : row (n := 1024) (res_main_v133 W) b = mlp (a6 W) (a8 W) (row (a1 W) (yid W b)) := funext fun k => v133_apply W h7 h9 hI b k
  rw [← e]
  exact score_apply (res_main_v133 W) (a0 W) b j

/-- Query `b`'s share of the reference's count of mismatches. -/
def share (q : Row) (T : Fin 100000 → Row) (i : Fin 100000) (p : Fin 100000) : EReal :=
  Scalar.select (IntOp.cmpi .ne (BitVec.ofNat 32 p.val) (BitVec.ofNat 32 i.val)) (gap (-score q (T p))) 0

/-- A pair's first index is the word of the row it names. -/
theorem ofNat_xid (h : ∀ j, (res_main_v51 W j).toNat < 100000) (b : Fin 1024) : res_main_v51 W (ix1 b) = BitVec.ofNat 32 (xid W b).val := by
  have h := h (ix1 b)
  have : (xid W b).val = (res_main_v51 W (ix1 b)).toNat := min_eq_left (by omega)
  rw [this, BitVec.ofNat_toNat, BitVec.setWidth_eq]
/-- A pair's second index is the word of the row it names. -/
theorem ofNat_yid (h : ∀ j, (res_main_v53 W j).toNat < 100000) (b : Fin 1024) : res_main_v53 W (ix1 b) = BitVec.ofNat 32 (yid W b).val := by
  have h := h (ix1 b)
  have : (yid W b).val = (res_main_v53 W (ix1 b)).toNat := min_eq_left (by omega)
  rw [this, BitVec.ofNat_toNat, BitVec.setWidth_eq]

/-- What the reference counts for query `b`, by some nearest row. -/
theorem share_of (A : S1024x100000.Idx → EReal) (I : IVec S1024 32) (q : Row) (T : Fin 100000 → Row) (i : Fin 100000) (b : Fin 1024)
    (hA : ∀ j, A (ix2 b j) = score q (T j)) (hi : I (ix1 b) = BitVec.ofNat 32 i.val) :
    ∃ p, (∀ j, score q (T j) ≤ score q (T p))
    ∧ select (cmpi .ne (shapeCast S1024 ((Host.topK S1024x1 1 (FloatOps.cmpfTotal (F := Ideal) (φ := .f32) .gt) A sliceFits_S1024x100000_S1024x1).2) shapeCasts_S1024x1_S1024) I)
        (subf (F := Ideal) (φ := .f32) (Host.ceil (F := Ideal) (φ := .f32) (Host.negf (F := Ideal) (φ := .f32) (shapeCast S1024 ((Host.topK S1024x1 1 (FloatOps.cmpfTotal (F := Ideal) (φ := .f32) .gt) A sliceFits_S1024x100000_S1024x1).1) shapeCasts_S1024x1_S1024))) (Host.floor (F := Ideal) (φ := .f32) (Host.negf (F := Ideal) (φ := .f32) (shapeCast S1024 ((Host.topK S1024x1 1 (FloatOps.cmpfTotal (F := Ideal) (φ := .f32) .gt) A sliceFits_S1024x100000_S1024x1).1) shapeCasts_S1024x1_S1024)))) (broadcastInDim S1024 ![] bcast_S_S1024 (id (constant (F := Ideal) S_ .f32 0x00000000#32))) (ix1 b)
      = share q T i p := by
  obtain ⟨p, e1, e2, e3⟩ := topOne A sliceFits_S1024x100000_S1024x1 b
  refine ⟨p, fun j => ?_, ?_⟩
  · have := e3 j
    rwa [hA, hA] at this
  · pointwise
    simp only [e1, e2, hA, hi]
    rw [show id (constant (F := Ideal) S_ .f32 0#32) ix0 = (0 : EReal) from Ideal.ofBits_zero_f32]
    rfl

include h3 h5 hI in
/-- The first direction's share, by some nearest row. -/
theorem missx (b : Fin 1024) : ∃ p, (∀ j, score (mlp (a2 W) (a4 W) (row (a0 W) (xid W b))) (row (a1 W) j)
        ≤ score (mlp (a2 W) (a4 W) (row (a0 W) (xid W b))) (row (a1 W) p))
    ∧ select (cmpi .ne (shapeCast S1024 ((Host.topK S1024x1 1 (FloatOps.cmpfTotal (F := Ideal) (φ := .f32) .gt) (res_main_v97 W) sliceFits_S1024x100000_S1024x1).2) shapeCasts_S1024x1_S1024) (res_main_v51 W))
        (subf (F := Ideal) (φ := .f32) (Host.ceil (F := Ideal) (φ := .f32) (res_main_v99 W)) (Host.floor (F := Ideal) (φ := .f32) (res_main_v99 W))) (broadcastInDim S1024 ![] bcast_S_S1024 (id (constant (F := Ideal) S_ .f32 0x00000000#32))) (ix1 b)
      = share (mlp (a2 W) (a4 W) (row (a0 W) (xid W b))) (row (a1 W)) (xid W b) p :=
  share_of (res_main_v97 W) (res_main_v51 W) _ (row (a1 W)) (xid W b) b (v97_apply W h3 h5 hI b) (ofNat_xid W (v51_lt W hI) b)

include h7 h9 hI in
/-- The second direction's share, by some nearest row. -/
theorem missy (b : Fin 1024) : ∃ p, (∀ j, score (mlp (a6 W) (a8 W) (row (a1 W) (yid W b))) (row (a0 W) j)
        ≤ score (mlp (a6 W) (a8 W) (row (a1 W) (yid W b))) (row (a0 W) p))
    ∧ select (cmpi .ne (shapeCast S1024 ((Host.topK S1024x1 1 (FloatOps.cmpfTotal (F := Ideal) (φ := .f32) .gt) (res_main_v151 W) sliceFits_S1024x100000_S1024x1).2) shapeCasts_S1024x1_S1024) (res_main_v53 W))
        (subf (F := Ideal) (φ := .f32) (Host.ceil (F := Ideal) (φ := .f32) (res_main_v153 W)) (Host.floor (F := Ideal) (φ := .f32) (res_main_v153 W))) (broadcastInDim S1024 ![] bcast_S_S1024 (id (constant (F := Ideal) S_ .f32 0x00000000#32))) (ix1 b)
      = share (mlp (a6 W) (a8 W) (row (a1 W) (yid W b))) (row (a0 W)) (yid W b) p :=
  share_of (res_main_v151 W) (res_main_v53 W) _ (row (a0 W)) (yid W b) b (v151_apply W h7 h9 hI b) (ofNat_yid W (v53_lt W hI) b)

/-- A sum over a column is the sum over its entries. -/
theorem sum_col (f : S1024.Idx → EReal) : (Host.reduceAdd (F := Ideal) (φ := .f32) f (constant S_ .f32 0x00000000#32) reducesTo_S1024_S_d0 h_S_) = fun _ => ∑ b : Fin 1024, f (ix1 b) := by
  funext j
  pointwise
/-- A sum over a column of 100000 is the sum over its entries. -/
theorem sum_rows (f : S100000.Idx → EReal) : (Host.reduceAdd (F := Ideal) (φ := .f32) f (constant S_ .f32 0x00000000#32) reducesTo_S100000_S_d0 h_S_) = fun _ => ∑ b : Fin 100000, f (ix1 b) := by
  funext j
  pointwise

/-- The reference's result, as its run states it. -/
def refTerm : FVec Ideal S_ .f32 := addf (F := Ideal) (φ := .f32) (addf (F := Ideal) (φ := .f32) (addf (F := Ideal) (φ := .f32) (addf (F := Ideal) (φ := .f32) (addf (F := Ideal) (φ := .f32) (addf (F := Ideal) (φ := .f32) (constant (F := Ideal) S_ .f32 0x00000000#32) (Host.divf (F := Ideal) (φ := .f32) (Host.reduceAdd (F := Ideal) (φ := .f32) (Host.sqrt (F := Ideal) (φ := .f32) (Host.dotGeneral (F := Ideal) (φ₁ := .f32) (φ₂ := .f32) dot_S100000x128_S100000x128_S100000_1_1_n_n_0_0 none (res_main_v30 W) (res_main_v30 W))) (constant (F := Ideal) S_ .f32 0x00000000#32) reducesTo_S100000_S_d0 h_S_) (constant (F := Ideal) S_ .f32 0x47C35000#32))) (Host.divf (F := Ideal) (φ := .f32) (Host.reduceAdd (F := Ideal) (φ := .f32) (Host.sqrt (F := Ideal) (φ := .f32) (Host.dotGeneral (F := Ideal) (φ₁ := .f32) (φ₂ := .f32) dot_S100000x128_S100000x128_S100000_1_1_n_n_0_0 none (res_main_v45 W) (res_main_v45 W))) (constant (F := Ideal) S_ .f32 0x00000000#32) reducesTo_S100000_S_d0 h_S_) (constant (F := Ideal) S_ .f32 0x47C35000#32))) (Host.divf (F := Ideal) (φ := .f32) (Host.reduceAdd (F := Ideal) (φ := .f32) (Host.sqrt (F := Ideal) (φ := .f32) (Host.dotGeneral (F := Ideal) (φ₁ := .f32) (φ₂ := .f32) dot_S1024x128_S1024x128_S1024_1_1_n_n_0_0 none (res_main_v68 W) (res_main_v68 W))) (constant (F := Ideal) S_ .f32 0x00000000#32) reducesTo_S1024_S_d0 h_S_) (constant (F := Ideal) S_ .f32 0x44800000#32))) (Host.divf (F := Ideal) (φ := .f32) (Host.reduceAdd (F := Ideal) (φ := .f32) (select (cmpi .ne (shapeCast S1024 ((Host.topK S1024x1 1 (FloatOps.cmpfTotal (F := Ideal) (φ := .f32) .gt) (res_main_v97 W) sliceFits_S1024x100000_S1024x1).2) shapeCasts_S1024x1_S1024) (res_main_v51 W)) (subf (F := Ideal) (φ := .f32) (Host.ceil (F := Ideal) (φ := .f32) (res_main_v99 W)) (Host.floor (F := Ideal) (φ := .f32) (res_main_v99 W))) (broadcastInDim S1024 ![] bcast_S_S1024 (id (constant (F := Ideal) S_ .f32 0x00000000#32)))) (constant (F := Ideal) S_ .f32 0x00000000#32) reducesTo_S1024_S_d0 h_S_) (constant (F := Ideal) S_ .f32 0x44800000#32))) (Host.divf (F := Ideal) (φ := .f32) (Host.reduceAdd (F := Ideal) (φ := .f32) (Host.sqrt (F := Ideal) (φ := .f32) (Host.dotGeneral (F := Ideal) (φ₁ := .f32) (φ₂ := .f32) dot_S1024x128_S1024x128_S1024_1_1_n_n_0_0 none (res_main_v122 W) (res_main_v122 W))) (constant (F := Ideal) S_ .f32 0x00000000#32) reducesTo_S1024_S_d0 h_S_) (constant (F := Ideal) S_ .f32 0x44800000#32))) (Host.divf (F := Ideal) (φ := .f32) (Host.reduceAdd (F := Ideal) (φ := .f32) (select (cmpi .ne (shapeCast S1024 ((Host.topK S1024x1 1 (FloatOps.cmpfTotal (F := Ideal) (φ := .f32) .gt) (res_main_v151 W) sliceFits_S1024x100000_S1024x1).2) shapeCasts_S1024x1_S1024) (res_main_v53 W)) (subf (F := Ideal) (φ := .f32) (Host.ceil (F := Ideal) (φ := .f32) (res_main_v153 W)) (Host.floor (F := Ideal) (φ := .f32) (res_main_v153 W))) (broadcastInDim S1024 ![] bcast_S_S1024 (id (constant (F := Ideal) S_ .f32 0x00000000#32)))) (constant (F := Ideal) S_ .f32 0x00000000#32) reducesTo_S1024_S_d0 h_S_) (constant (F := Ideal) S_ .f32 0x44800000#32))

include h3 h5 h7 h9 in
/-- The first table's cycle distances, summed. -/
theorem cycx_eq : (Host.reduceAdd (F := Ideal) (φ := .f32) (Host.sqrt (F := Ideal) (φ := .f32) (Host.dotGeneral (F := Ideal) (φ₁ := .f32) (φ₂ := .f32) dot_S100000x128_S100000x128_S100000_1_1_n_n_0_0 none (res_main_v30 W) (res_main_v30 W))) (constant (F := Ideal) S_ .f32 0x00000000#32) reducesTo_S100000_S_d0 h_S_) = fun _ => ∑ i, cyc (a2 W) (a4 W) (a6 W) (a8 W) (row (a0 W) i) := by
  refine (sum_rows _).trans (funext fun _ => Finset.sum_congr rfl fun i _ => ?_)
  pointwise
  simp only [v30_apply W h3 h5 h7 h9]
  rfl
include h3 h5 h7 h9 in
/-- The second table's cycle distances, summed. -/
theorem cycy_eq : (Host.reduceAdd (F := Ideal) (φ := .f32) (Host.sqrt (F := Ideal) (φ := .f32) (Host.dotGeneral (F := Ideal) (φ₁ := .f32) (φ₂ := .f32) dot_S100000x128_S100000x128_S100000_1_1_n_n_0_0 none (res_main_v45 W) (res_main_v45 W))) (constant (F := Ideal) S_ .f32 0x00000000#32) reducesTo_S100000_S_d0 h_S_) = fun _ => ∑ i, cyc (a6 W) (a8 W) (a2 W) (a4 W) (row (a1 W) i) := by
  refine (sum_rows _).trans (funext fun _ => Finset.sum_congr rfl fun i _ => ?_)
  pointwise
  simp only [v45_apply W h3 h5 h7 h9]
  rfl
include h3 h5 hI in
/-- The first queries' distances to their paired rows, summed. -/
theorem supx_eq : (Host.reduceAdd (F := Ideal) (φ := .f32) (Host.sqrt (F := Ideal) (φ := .f32) (Host.dotGeneral (F := Ideal) (φ₁ := .f32) (φ₂ := .f32) dot_S1024x128_S1024x128_S1024_1_1_n_n_0_0 none (res_main_v68 W) (res_main_v68 W))) (constant (F := Ideal) S_ .f32 0x00000000#32) reducesTo_S1024_S_d0 h_S_) = fun _ => ∑ b, Ideal.sqrt (sqd (mlp (a2 W) (a4 W) (row (a0 W) (xid W b))) (row (a1 W) (yid W b))) := by
  refine (sum_col _).trans (funext fun _ => Finset.sum_congr rfl fun i _ => ?_)
  pointwise
  simp only [v68_apply W h3 h5 hI]
  rfl
include h7 h9 hI in
/-- The second queries' distances to their paired rows, summed. -/
theorem supy_eq : (Host.reduceAdd (F := Ideal) (φ := .f32) (Host.sqrt (F := Ideal) (φ := .f32) (Host.dotGeneral (F := Ideal) (φ₁ := .f32) (φ₂ := .f32) dot_S1024x128_S1024x128_S1024_1_1_n_n_0_0 none (res_main_v122 W) (res_main_v122 W))) (constant (F := Ideal) S_ .f32 0x00000000#32) reducesTo_S1024_S_d0 h_S_) = fun _ => ∑ b, Ideal.sqrt (sqd (mlp (a6 W) (a8 W) (row (a1 W) (yid W b))) (row (a0 W) (xid W b))) := by
  refine (sum_col _).trans (funext fun _ => Finset.sum_congr rfl fun i _ => ?_)
  pointwise
  simp only [v122_apply W h7 h9 hI]
  rfl

include h3 h5 h7 h9 hI in
/-- The reference's loss: two cycle means, and for each direction the mean distance to the paired row and the mean of the
    mismatches' gaps, each mismatch judged by some nearest row. -/
theorem ref_value : ∃ px py : Fin 1024 → Fin 100000,
    (∀ b j, score (mlp (a2 W) (a4 W) (row (a0 W) (xid W b))) (row (a1 W) j) ≤ score (mlp (a2 W) (a4 W) (row (a0 W) (xid W b))) (row (a1 W) (px b)))
    ∧ (∀ b j, score (mlp (a6 W) (a8 W) (row (a1 W) (yid W b))) (row (a0 W) j) ≤ score (mlp (a6 W) (a8 W) (row (a1 W) (yid W b))) (row (a0 W) (py b)))
    ∧ refTerm W = fun _ => ((((Ideal.div (∑ i, cyc (a2 W) (a4 W) (a6 W) (a8 W) (row (a0 W) i)) nRows
        + Ideal.div (∑ i, cyc (a6 W) (a8 W) (a2 W) (a4 W) (row (a1 W) i)) nRows)
        + Ideal.div (∑ b, Ideal.sqrt (sqd (mlp (a2 W) (a4 W) (row (a0 W) (xid W b))) (row (a1 W) (yid W b)))) nQueries)
        + Ideal.div (∑ b, share (mlp (a2 W) (a4 W) (row (a0 W) (xid W b))) (row (a1 W)) (xid W b) (px b)) nQueries)
        + Ideal.div (∑ b, Ideal.sqrt (sqd (mlp (a6 W) (a8 W) (row (a1 W) (yid W b))) (row (a0 W) (xid W b)))) nQueries)
        + Ideal.div (∑ b, share (mlp (a6 W) (a8 W) (row (a1 W) (yid W b))) (row (a0 W)) (yid W b) (py b)) nQueries := by
  choose px hpx epx using missx W h3 h5 hI
  choose py hpy epy using missy W h7 h9 hI
  refine ⟨px, py, hpx, hpy, ?_⟩
  have e4 : (Host.reduceAdd (F := Ideal) (φ := .f32) (select (cmpi .ne (shapeCast S1024 ((Host.topK S1024x1 1 (FloatOps.cmpfTotal (F := Ideal) (φ := .f32) .gt) (res_main_v97 W) sliceFits_S1024x100000_S1024x1).2) shapeCasts_S1024x1_S1024) (res_main_v51 W)) (subf (F := Ideal) (φ := .f32) (Host.ceil (F := Ideal) (φ := .f32) (res_main_v99 W)) (Host.floor (F := Ideal) (φ := .f32) (res_main_v99 W))) (broadcastInDim S1024 ![] bcast_S_S1024 (id (constant (F := Ideal) S_ .f32 0x00000000#32)))) (constant (F := Ideal) S_ .f32 0x00000000#32) reducesTo_S1024_S_d0 h_S_) = fun _ => ∑ b, share (mlp (a2 W) (a4 W) (row (a0 W) (xid W b))) (row (a1 W)) (xid W b) (px b) :=
    (sum_col _).trans (funext fun _ => Finset.sum_congr rfl fun b _ => epx b)
  have e6 : (Host.reduceAdd (F := Ideal) (φ := .f32) (select (cmpi .ne (shapeCast S1024 ((Host.topK S1024x1 1 (FloatOps.cmpfTotal (F := Ideal) (φ := .f32) .gt) (res_main_v151 W) sliceFits_S1024x100000_S1024x1).2) shapeCasts_S1024x1_S1024) (res_main_v53 W)) (subf (F := Ideal) (φ := .f32) (Host.ceil (F := Ideal) (φ := .f32) (res_main_v153 W)) (Host.floor (F := Ideal) (φ := .f32) (res_main_v153 W))) (broadcastInDim S1024 ![] bcast_S_S1024 (id (constant (F := Ideal) S_ .f32 0x00000000#32)))) (constant (F := Ideal) S_ .f32 0x00000000#32) reducesTo_S1024_S_d0 h_S_) = fun _ => ∑ b, share (mlp (a6 W) (a8 W) (row (a1 W) (yid W b))) (row (a0 W)) (yid W b) (py b) :=
    (sum_col _).trans (funext fun _ => Finset.sum_congr rfl fun b _ => epy b)
  unfold refTerm
  rw [cycx_eq W h3 h5 h7 h9, cycy_eq W h3 h5 h7 h9, supx_eq W h3 h5 hI, supy_eq W h7 h9 hI, e4, e6]
  funext j
  pointwise
  rfl

end

end Cert.Proof.Loss.Ref

end
-- ==== Proof.PreFacts.lean ====
/- The value claim's precondition is a function whose shapes fit together. -/
module

public import proofs.«01_k».proof.Pre_zero_biases_without_near_ties
public import Idealize.ShloMosaic.Lib.Decide

@[expose] public section

set_option maxRecDepth 16384

namespace Cert.Proof.Loss.Pre

open Idealize.ShloMosaic

/-- Each shape relation that the precondition's operations ask for holds. -/
instance shapes : Cert.Pre_zero_biases_without_near_ties.Facts where
  slices_S1024x2_S1024x1_0_0 := by decide
  shapeCasts_S1024x1_S1024 := by decide
  slices_S1024x2_S1024x1_0_1 := by decide
  bcast_S_S1024 := by decide
  bcast_S1024_S1024x1_0 := by decide
  bcast_S100_S1x100_1 := by decide
  bcast_S1x100_S1024x100_0_1 := by decide
  bcast_S_S1024x100 := by decide
  bcast_S128_S1x128_1 := by decide
  bcast_S1x128_S1024x128_0_1 := by decide
  bcast_S_S1024x2 := by decide
  bcast_S_S100 := by decide
  bcast_S_S128 := by decide
  reducesTo_S1024x128_S1024_d1 := by decide
  h_S_ := by decide
  reducesTo_S100000x128_S100000_d1 := by decide
  bcast_S100000_S1x100000_1 := by decide
  bcast_S1024x1_S1024x100000_0_1 := by decide
  bcast_S1x100000_S1024x100000_0_1 := by decide
  transposes_S100000x128_S128x100000_1_0 := by decide
  bcast_S_S1024x100000 := by decide
  reducesTo_S1024x100000_S1024_d1 := by decide
  bcast_S_S1024x1 := by decide
  gather_S100000x128_S1024x1_S1024x128_1_0_n_n_0_1_1128_wf := by decide
  dot_S1024x128_S128x100_S1024x100_1_0_0_1_n_n_wf := by decide
  dot_S1024x100_S100x128_S1024x128_1_0_0_1_n_n_wf := by decide
  dot_S1024x128_S128x100000_S1024x100000_1_0_0_1_n_n_wf := by decide

end Cert.Proof.Loss.Pre

end
-- ==== Proof.LossEq.lean ====
/- The two idealized programs end with one loss. -/
module

public import proofs.«01_k».proof.Defs
public import proofs.«01_k».proof.Proof.Frames
public import proofs.«01_k».proof.Proof.LossInf
public import proofs.«01_k».proof.Proof.LossPre
public import proofs.«01_k».proof.Proof.LossRef
public import proofs.«01_k».proof.Proof.PreFacts

@[expose] public section

set_option maxRecDepth 16384

noncomputable section

namespace Cert.Proof.Loss

open Idealize.ShloMosaic Idealize.SL.Sem Idealize.ShloMosaic.TcCoe
open Cert.Proof.IdealRun (rowNo)
open Cert.Proof.Loss.Ref (share)

/-- The loss over plain tables: two cycle means, and for each direction the mean distance to the paired row and the mean
    gap of the queries whose nearest row is not the one of their own number. -/
def lossOf (x y : Tab 100000 128) (w1 : Tab 128 100) (w2 : Tab 100 128) (u1 : Tab 128 100) (u2 : Tab 100 128)
    (xi yi px py : Fin 1024 → Fin 100000) : EReal :=
  ((((Ideal.div (∑ i, cyc w1 w2 u1 u2 (row x i)) nRows
        + Ideal.div (∑ i, cyc u1 u2 w1 w2 (row y i)) nRows)
        + Ideal.div (∑ b, Ideal.sqrt (sqd (mlp w1 w2 (row x (xi b))) (row y (yi b)))) nQueries)
        + Ideal.div (∑ b, share (mlp w1 w2 (row x (xi b))) (row y) (xi b) (px b)) nQueries)
        + Ideal.div (∑ b, Ideal.sqrt (sqd (mlp u1 u2 (row y (yi b))) (row x (xi b)))) nQueries)
        + Ideal.div (∑ b, share (mlp u1 u2 (row y (yi b))) (row x) (yi b) (py b)) nQueries

/-- Counting mismatches by the tolerance gives the loss: query by query where every entry met is finite, and as an infinite
    loss on both sides where some entry is not. -/
theorem counts_eq (x y : Tab 100000 128) (w1 : Tab 128 100) (w2 : Tab 100 128) (u1 : Tab 128 100) (u2 : Tab 100 128)
    (xi yi px py : Fin 1024 → Fin 100000) (Mx My : Fin 1024 → EReal)
    (hMx : ∀ b a, a ≤ Mx b ↔ ∀ j, a ≤ cand (mlp w1 w2 (row x (xi b))) (row y j))
    (hMy : ∀ b a, a ≤ My b ↔ ∀ j, a ≤ cand (mlp u1 u2 (row y (yi b))) (row x j))
    (fx : ∀ b, (∀ j, j = xi b ∨ sqd (mlp w1 w2 (row x (xi b))) (row y (xi b)) < dist2 (mlp w1 w2 (row x (xi b))) (row y j))
      ∨ ∃ j, dist2 (mlp w1 w2 (row x (xi b))) (row y j) < sqd (mlp w1 w2 (row x (xi b))) (row y (xi b)) - tol)
    (fy : ∀ b, (∀ j, j = yi b ∨ sqd (mlp u1 u2 (row y (yi b))) (row x (yi b)) < dist2 (mlp u1 u2 (row y (yi b))) (row x j))
      ∨ ∃ j, dist2 (mlp u1 u2 (row y (yi b))) (row x j) < sqd (mlp u1 u2 (row y (yi b))) (row x (yi b)) - tol)
    (hpx : ∀ b j, score (mlp w1 w2 (row x (xi b))) (row y j) ≤ score (mlp w1 w2 (row x (xi b))) (row y (px b)))
    (hpy : ∀ b j, score (mlp u1 u2 (row y (yi b))) (row x j) ≤ score (mlp u1 u2 (row y (yi b))) (row x (py b))) :
    ((((Ideal.div (∑ i, cyc w1 w2 u1 u2 (row x i)) nRows
        + Ideal.div (∑ i, cyc u1 u2 w1 w2 (row y i)) nRows)
        + Ideal.div (∑ b, Ideal.sqrt (sqd (mlp w1 w2 (row x (xi b))) (row y (yi b)))) nQueries)
        + Ideal.div (∑ b, part (mlp w1 w2 (row x (xi b))) (row y (xi b)) (Mx b)) nQueries)
        + Ideal.div (∑ b, Ideal.sqrt (sqd (mlp u1 u2 (row y (yi b))) (row x (xi b)))) nQueries)
        + Ideal.div (∑ b, part (mlp u1 u2 (row y (yi b))) (row x (yi b)) (My b)) nQueries
      = lossOf x y w1 w2 u1 u2 xi yi px py := by
  by_cases hr : (∀ i k, IsReal (row x i k)) ∧ (∀ i k, IsReal (row y i k)) ∧ (∀ b k, IsReal (mlp w1 w2 (row x (xi b)) k))
      ∧ ∀ b k, IsReal (mlp u1 u2 (row y (yi b)) k)
  · obtain ⟨rx, ry, rqx, rqy⟩ := hr
    have hx : ∀ b, part (mlp w1 w2 (row x (xi b))) (row y (xi b)) (Mx b) = share (mlp w1 w2 (row x (xi b))) (row y) (xi b) (px b) :=
      fun b => part_eq _ (row y) (xi b) (px b) _ (rqx b) ry (hMx b) (hpx b) (fx b)
    have hy : ∀ b, part (mlp u1 u2 (row y (yi b))) (row x (yi b)) (My b) = share (mlp u1 u2 (row y (yi b))) (row x) (yi b) (py b) :=
      fun b => part_eq _ (row x) (yi b) (py b) _ (rqy b) rx (hMy b) (hpy b) (fy b)
    rw [funext hx, funext hy]
    rfl
  · obtain ⟨a0, at'⟩ := mean_rows (fun i => cyc w1 w2 u1 u2 (row x i)) fun i => sqrt_nonneg' (sqd_nonneg _ _)
    obtain ⟨b0, bt⟩ := mean_rows (fun i => cyc u1 u2 w1 w2 (row y i)) fun i => sqrt_nonneg' (sqd_nonneg _ _)
    obtain ⟨c0, ct⟩ := mean_queries (fun b => Ideal.sqrt (sqd (mlp w1 w2 (row x (xi b))) (row y (yi b)))) fun b => sqrt_nonneg' (sqd_nonneg _ _)
    obtain ⟨e0, et⟩ := mean_queries (fun b => Ideal.sqrt (sqd (mlp u1 u2 (row y (yi b))) (row x (xi b)))) fun b => sqrt_nonneg' (sqd_nonneg _ _)
    have d0 := (mean_queries (fun b => part (mlp w1 w2 (row x (xi b))) (row y (xi b)) (Mx b))
      fun b => part_nonneg _ (row y) (xi b) (Mx b) (hMx b) (fx b) _).1
    have f0 := (mean_queries (fun b => part (mlp u1 u2 (row y (yi b))) (row x (yi b)) (My b))
      fun b => part_nonneg _ (row x) (yi b) (My b) (hMy b) (fy b) _).1
    have d1 := (mean_queries (fun b => share (mlp w1 w2 (row x (xi b))) (row y) (xi b) (px b))
      fun b => share_nonneg _ (row y) (xi b) (px b) (hpx b) (fx b) _).1
    have f1 := (mean_queries (fun b => share (mlp u1 u2 (row y (yi b))) (row x) (yi b) (py b))
      fun b => share_nonneg _ (row x) (yi b) (py b) (hpy b) (fy b) _).1
    have root {q t : Row} (k : Fin 128) (h : ¬ (IsReal (q k) ∧ IsReal (t k))) : Ideal.sqrt (sqd q t) = ⊤ := by
      rw [sqd_top k h]
      rfl
    have ht : Ideal.div (∑ i, cyc w1 w2 u1 u2 (row x i)) nRows = ⊤ ∨ Ideal.div (∑ i, cyc u1 u2 w1 w2 (row y i)) nRows = ⊤
        ∨ Ideal.div (∑ b, Ideal.sqrt (sqd (mlp w1 w2 (row x (xi b))) (row y (yi b)))) nQueries = ⊤
        ∨ Ideal.div (∑ b, Ideal.sqrt (sqd (mlp u1 u2 (row y (yi b))) (row x (xi b)))) nQueries = ⊤ := by
      simp only [not_and_or, not_forall] at hr
      rcases hr with ⟨i, k, h⟩ | ⟨i, k, h⟩ | ⟨b, k, h⟩ | ⟨b, k, h⟩
      · exact Or.inl (at' ⟨i, root k fun e => h e.2⟩)
      · exact Or.inr (Or.inl (bt ⟨i, root k fun e => h e.2⟩))
      · exact Or.inr (Or.inr (Or.inl (ct ⟨b, root k fun e => h e.1⟩)))
      · exact Or.inr (Or.inr (Or.inr (et ⟨b, root k fun e => h e.1⟩)))
    exact (six_top a0 b0 c0 d0 e0 f0 ht).trans (six_top a0 b0 c0 d1 e0 f1 ht).symm

section Kernel
open Cert.KernelIdeal Cert.KernelIdeal.Gen Cert.Proof.IdealRun

variable (V : (c : Dev nD) → (b : Ref sig .tc) → Buf (Elt Ideal) ((c : Thread nD τ).loc b)) (c : Dev nD)

/-- The loss that the kernel stores, where its gathered tables hold the rows that `xi` and `yi` name and `px` and `py` name
    the nearest rows. -/
theorem kernel_loss (x y : Tab 100000 128) (w1 : Tab 128 100) (w2 : Tab 100 128) (u1 : Tab 128 100) (u2 : Tab 100 128)
    (xi yi px py : Fin 1024 → Fin 100000)
    (ex : V c main_arg0 = x) (ey : V c main_arg1 = y) (e2 : V c main_arg2 = w1) (e4 : V c main_arg4 = w2)
    (e6 : V c main_arg6 = u1) (e8 : V c main_arg8 = u2)
    (g0 : ∀ b, row (n := 1024) (V c main_v4_0) b = row x (xi b)) (g1 : ∀ b, row (n := 1024) (V c main_v4_1) b = row y (yi b))
    (g2 : ∀ b, row (n := 1024) (V c main_v4_2) b = row y (xi b)) (g3 : ∀ b, row (n := 1024) (V c main_v4_3) b = row x (yi b))
    (fx : ∀ b, (∀ j, j = xi b ∨ sqd (mlp w1 w2 (row x (xi b))) (row y (xi b)) < dist2 (mlp w1 w2 (row x (xi b))) (row y j))
      ∨ ∃ j, dist2 (mlp w1 w2 (row x (xi b))) (row y j) < sqd (mlp w1 w2 (row x (xi b))) (row y (xi b)) - tol)
    (fy : ∀ b, (∀ j, j = yi b ∨ sqd (mlp u1 u2 (row y (yi b))) (row x (yi b)) < dist2 (mlp u1 u2 (row y (yi b))) (row x j))
      ∨ ∃ j, dist2 (mlp u1 u2 (row y (yi b))) (row x j) < sqd (mlp u1 u2 (row y (yi b))) (row x (yi b)) - tol)
    (hpx : ∀ b j, score (mlp w1 w2 (row x (xi b))) (row y j) ≤ score (mlp w1 w2 (row x (xi b))) (row y (px b)))
    (hpy : ∀ b j, score (mlp u1 u2 (row y (yi b))) (row x j) ≤ score (mlp u1 u2 (row y (yi b))) (row x (py b))) :
    outS (stN V c 25) o11 = lossOf x y w1 w2 u1 u2 xi yi px py := by
  have qxe : ∀ b, qx V c b = mlp w1 w2 (row x (xi b)) := fun b => by unfold qx; rw [g0, e2, e4]
  have qye : ∀ b, qy V c b = mlp u1 u2 (row y (yi b)) := fun b => by unfold qy; rw [g1, e6, e8]
  have hMx : ∀ b a, a ≤ mxEnd V c b ↔ ∀ j, a ≤ cand (mlp w1 w2 (row x (xi b))) (row y j) := fun b => by
    have hM := le_mxEnd V c b
    rwa [qxe, ey] at hM
  have hMy : ∀ b a, a ≤ myEnd V c b ↔ ∀ j, a ≤ cand (mlp u1 u2 (row y (yi b))) (row x j) := fun b => by
    have hM := le_myEnd V c b
    rwa [qye, ex] at hM
  have hx : ∀ b, part (qx V c b) (row (n := 1024) (V c main_v4_2) b) (mxEnd V c b) = part (mlp w1 w2 (row x (xi b))) (row y (xi b)) (mxEnd V c b) :=
    fun b => by rw [qxe, g2]
  have hy : ∀ b, part (qy V c b) (row (n := 1024) (V c main_v4_3) b) (myEnd V c b) = part (mlp u1 u2 (row y (yi b))) (row x (yi b)) (myEnd V c b) :=
    fun b => by rw [qye, g3]
  have hs : ∀ b, Ideal.sqrt (sqd (qx V c b) (row (n := 1024) (V c main_v4_1) b)) = Ideal.sqrt (sqd (mlp w1 w2 (row x (xi b))) (row y (yi b))) :=
    fun b => by rw [qxe, g1]
  have ht : ∀ b, Ideal.sqrt (sqd (qy V c b) (row (n := 1024) (V c main_v4_0) b)) = Ideal.sqrt (sqd (mlp u1 u2 (row y (yi b))) (row x (xi b))) :=
    fun b => by rw [qye, g0]
  rw [out_value, funext hx, funext hy, funext hs, funext ht, ex, ey, e2, e4, e6, e8]
  exact counts_eq x y w1 w2 u1 u2 xi yi px py _ _ hMx hMy fx fy hpx hpy

variable (m : (ℓ : Loc nD τ sig) → Buf (Elt Ideal) ℓ)

/-- A gathered table's row is the row that its index names. -/
theorem rowsOf_row (t : Tab 100000 128) (ix : S1024.Idx → BitVec 32) (b : Fin 1024) :
    row (n := 1024) (rowsOf t ix) b = row t (rowNo (ix (ix1 b)).toNat) := by
  have e : ent b = ix1 b := funext fun a => by fin_cases a; rfl
  rw [← e]
  funext k
  refine congrArg t (funext fun a => ?_)
  fin_cases a <;> rfl

end Kernel

/-- What the precondition says of the kernel's arguments. -/
theorem good_args (m : (ℓ : Loc Cert.KernelIdeal.nD Cert.KernelIdeal.τ Cert.KernelIdeal.sig) → Buf (Elt Ideal) ℓ)
    (h : Pre_KernelIdeal_zero_biases_without_near_ties m) (c : Dev Cert.KernelIdeal.nD) :
    Pre.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) :=
  Pre.good_of _ _ _ _ _ _ _ _ _ _ _ _ _ (h c)

section Both
open Cert.KernelIdeal Cert.KernelIdeal.Gen Cert.Proof.IdealRun

/-- From memories that agree on the arguments, the kernel's stored loss is the reference's term. -/
theorem losses_eq (m : (ℓ : Loc nD τ sig) → Buf (Elt Ideal) ℓ) (c : Dev nD)
    (W : Valuation Cert.ReferenceIdeal.τ Cert.ReferenceIdeal.sig (Elt Ideal))
    (e0 : Ref.a0 W = m ((c.tc : Thread nD τ).loc main_arg0)) (e1 : Ref.a1 W = m ((c.tc : Thread nD τ).loc main_arg1))
    (e2 : Ref.a2 W = m ((c.tc : Thread nD τ).loc main_arg2)) (e3 : Ref.a3 W = m ((c.tc : Thread nD τ).loc main_arg3))
    (e4 : Ref.a4 W = m ((c.tc : Thread nD τ).loc main_arg4)) (e5 : Ref.a5 W = m ((c.tc : Thread nD τ).loc main_arg5))
    (e6 : Ref.a6 W = m ((c.tc : Thread nD τ).loc main_arg6)) (e7 : Ref.a7 W = m ((c.tc : Thread nD τ).loc main_arg7))
    (e8 : Ref.a8 W = m ((c.tc : Thread nD τ).loc main_arg8)) (e9 : Ref.a9 W = m ((c.tc : Thread nD τ).loc main_arg9))
    (e10 : Ref.a10 W = m ((c.tc : Thread nD τ).loc main_arg10))
    (good : Pre.Good (Ref.a0 W) (Ref.a1 W) (Ref.a2 W) (Ref.a3 W) (Ref.a4 W) (Ref.a5 W) (Ref.a6 W) (Ref.a7 W) (Ref.a8 W) (Ref.a9 W) (Ref.a10 W)) :
    shapeCast (α := EReal) S_ (outS (stN (V2r m) c 25)) shapeCasts_S1x1_S_ = Ref.refTerm W := by
  obtain ⟨px, py, hpx, hpy, e⟩ := Ref.ref_value W good.b1_zero good.b2_zero good.d1_zero good.d2_zero good.range
  have xie : xiOf m c = Pre.colX (Ref.a10 W) := (xiOf_eq m c).trans (by rw [e10]; rfl)
  have yie : yiOf m c = Pre.colY (Ref.a10 W) := (yiOf_eq m c).trans (by rw [e10]; rfl)
  rw [e]
  have l := kernel_loss (V2r m) c (Ref.a0 W) (Ref.a1 W) (Ref.a2 W) (Ref.a4 W) (Ref.a6 W) (Ref.a8 W) (Ref.xid W) (Ref.yid W) px py
    ((V2_arg m c main_arg0 (by decide)).trans e0.symm) ((V2_arg m c main_arg1 (by decide)).trans e1.symm)
    ((V2_arg m c main_arg2 (by decide)).trans e2.symm) ((V2_arg m c main_arg4 (by decide)).trans e4.symm)
    ((V2_arg m c main_arg6 (by decide)).trans e6.symm) ((V2_arg m c main_arg8 (by decide)).trans e8.symm)
    (fun b => by
      have g : V2r m c main_v4_0 = rowsOf (Ref.a0 W) (Pre.colX (Ref.a10 W)) := (V2_g0 m c).trans (by rw [xie, e0])
      rw [g]
      exact rowsOf_row _ _ b)
    (fun b => by
      have g : V2r m c main_v4_1 = rowsOf (Ref.a1 W) (Pre.colY (Ref.a10 W)) := (V2_g1 m c).trans (by rw [yie, e1])
      rw [g]
      exact rowsOf_row _ _ b)
    (fun b => by
      have g : V2r m c main_v4_2 = rowsOf (Ref.a1 W) (Pre.colX (Ref.a10 W)) := (V2_g2 m c).trans (by rw [xie, e1])
      rw [g]
      exact rowsOf_row _ _ b)
    (fun b => by
      have g : V2r m c main_v4_3 = rowsOf (Ref.a0 W) (Pre.colY (Ref.a10 W)) := (V2_g3 m c).trans (by rw [yie, e0])
      rw [g]
      exact rowsOf_row _ _ b)
    good.far_x good.far_y hpx hpy
  funext j
  refine Eq.trans ?_ l
  exact congrArg (outS (stN (V2r m) c 25)) (funext fun a => by fin_cases a <;> exact Subsingleton.elim (α := Fin 1) _ _)

end Both

/-- From memories that agree on the arguments and meet the precondition, both programs end with one loss and keep their
    arguments. -/
theorem algebraic : algebraic_KernelIdeal_ReferenceIdeal_pre_zero_biases_without_near_ties := by
  intro m g m' g' h he
  have index : IdealRun.InRange (IdealRun.xiOf m) (IdealRun.yiOf m) := IdealRun.inRange_of m fun d j => (good_args m h d).range j
  refine ⟨fun c => Ref.refTerm (StableHlo.launchContents m' c), ?_, ?_⟩
  · refine (θ_run _ _ _).mono (fun r hr c => ⟨(hr.1 c).1.trans ?_, (hr.1 c).2⟩) (IdealRun.run_value m g index)
    obtain ⟨e0, e1, e2, e3, e4, e5, e6, e7, e8, e9, e10, -, -⟩ := he c
    refine losses_eq m c (StableHlo.launchContents m' c) e0 e1 e2 e3 e4 e5 e6 e7 e8 e9 e10 ?_
    have good := good_args m h c
    rw [← e0, ← e1, ← e2, ← e3, ← e4, ← e5, ← e6, ← e7, ← e8, ← e9, ← e10] at good
    exact good
  · exact (θ_run _ _ _).mono (fun r hr c => hr c) (Cert.ReferenceIdeal.Value.run (F := Ideal) m' g')

/-- Where the precondition holds, the idealized kernel ends with its arguments unchanged and every counter at zero. -/
theorem frame_ideal : quiescent_KernelIdeal_pre_zero_biases_without_near_ties := by
  intro m g h
  exact (θ_run _ _ _).mono (fun _ hr => ⟨fun c => (hr.1 c).2, hr.2⟩)
    (IdealRun.run_value m g (IdealRun.inRange_of m fun d j => (good_args m h d).range j))

/-- Where the precondition holds, the idealized reference ends with its arguments unchanged and every counter at zero. -/
theorem frame_reference : quiescent_ReferenceIdeal_pre_zero_biases_without_near_ties := by
  intro m g _
  exact Cert.Proof.frame_reference m g trivial

end Cert.Proof.Loss

end
-- ==== Proof.lean ====
module

public import proofs.«01_k».proof.Defs
public import proofs.«01_k».proof.Proof.Frames
public import proofs.«01_k».proof.Proof.LossEq

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_index_map_in_range.Gen.facts,
    Loss.Pre.shapes, frame_kernel, frame_ideal, Loss.frame_ideal, frame_reference, Loss.frame_reference, trivial, Loss.algebraic⟩

end Cert.Proof

end
